-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S1x100x21 : Shape := ⟨3, ![1, 100, 21]⟩
abbrev S100x128x128x16 : Shape := ⟨4, ![100, 128, 128, 16]⟩
abbrev S20x128x128x16 : Shape := ⟨4, ![20, 128, 128, 16]⟩
abbrev S100x128x16x128 : Shape := ⟨4, ![100, 128, 16, 128]⟩
abbrev S100x2048x128 : Shape := ⟨3, ![100, 2048, 128]⟩
abbrev S20x128x16x128 : Shape := ⟨4, ![20, 128, 16, 128]⟩
abbrev S20x2048x128 : Shape := ⟨3, ![20, 2048, 128]⟩
abbrev S100x262144 : Shape := ⟨2, ![100, 262144]⟩
abbrev S262144x100 : Shape := ⟨2, ![262144, 100]⟩
abbrev S_ : Shape := ⟨0, ![]⟩
abbrev S1x2048x128 : Shape := ⟨3, ![1, 2048, 128]⟩
abbrev S128x1 : Shape := ⟨2, ![128, 1]⟩
abbrev S8192x100 : Shape := ⟨2, ![8192, 100]⟩
abbrev S20x64x128 : Shape := ⟨3, ![20, 64, 128]⟩
abbrev S1x64x128 : Shape := ⟨3, ![1, 64, 128]⟩
abbrev S100x100 : Shape := ⟨2, ![100, 100]⟩
abbrev S100x8 : Shape := ⟨2, ![100, 8]⟩
abbrev S8x100 : Shape := ⟨2, ![8, 100]⟩
abbrev S8192x8 : Shape := ⟨2, ![8192, 8]⟩
abbrev S19x64x128 : Shape := ⟨3, ![19, 64, 128]⟩
abbrev S64x128 : Shape := ⟨2, ![64, 128]⟩
abbrev S100x1 : Shape := ⟨2, ![100, 1]⟩
abbrev S1x100 : Shape := ⟨2, ![1, 100]⟩
abbrev S100 : Shape := ⟨1, ![100]⟩
abbrev S28x1 : Shape := ⟨2, ![28, 1]⟩
abbrev S128 : Shape := ⟨1, ![128]⟩
abbrev S1x512x128 : Shape := ⟨3, ![1, 512, 128]⟩
abbrev S1 : Shape := ⟨1, ![1]⟩

abbrev nBuf : Space → Nat
  | .hbm => 30
  | .vmem => 21
  | .smem => 2
  | _ => 0

abbrev bufTy : (tb : Table) → Fin (tcTables nBuf tb) → BufTy
  | .hbm, ⟨0, _⟩ => ⟨S1x100x21, .f32⟩
  | .hbm, ⟨1, _⟩ => ⟨S1x100x21, .f32⟩
  | .hbm, ⟨2, _⟩ => ⟨S100x128x128x16, .f32⟩
  | .hbm, ⟨3, _⟩ => ⟨S100x128x128x16, .f32⟩
  | .hbm, ⟨4, _⟩ => ⟨S20x128x128x16, .f32⟩
  | .hbm, ⟨5, _⟩ => ⟨S100x128x16x128, .f32⟩
  | .hbm, ⟨6, _⟩ => ⟨S100x2048x128, .f32⟩
  | .hbm, ⟨7, _⟩ => ⟨S100x128x16x128, .f32⟩
  | .hbm, ⟨8, _⟩ => ⟨S100x2048x128, .f32⟩
  | .hbm, ⟨9, _⟩ => ⟨S20x128x16x128, .f32⟩
  | .hbm, ⟨10, _⟩ => ⟨S20x2048x128, .f32⟩
  | .hbm, ⟨11, _⟩ => ⟨S100x262144, .f32⟩
  | .hbm, ⟨12, _⟩ => ⟨S262144x100, .f32⟩
  | .hbm, ⟨13, _⟩ => ⟨S_, .f32⟩
  | .hbm, ⟨14, _⟩ => ⟨S262144x100, .f32⟩
  | .hbm, ⟨15, _⟩ => ⟨S262144x100, .i1⟩
  | .hbm, ⟨16, _⟩ => ⟨S262144x100, .i8⟩
  | .hbm, ⟨17, _⟩ => ⟨S100x262144, .f32⟩
  | .hbm, ⟨18, _⟩ => ⟨S262144x100, .f32⟩
  | .hbm, ⟨19, _⟩ => ⟨S_, .f32⟩
  | .hbm, ⟨20, _⟩ => ⟨S262144x100, .f32⟩
  | .hbm, ⟨21, _⟩ => ⟨S262144x100, .i1⟩
  | .hbm, ⟨22, _⟩ => ⟨S262144x100, .i8⟩
  | .hbm, ⟨23, _⟩ => ⟨S1x2048x128, .f32⟩
  | .hbm, ⟨24, _⟩ => ⟨S128x1, .i32⟩
  | .hbm, ⟨25, _⟩ => ⟨S128x1, .f32⟩
  | .hbm, ⟨26, _⟩ => ⟨S128, .f32⟩
  | .hbm, ⟨27, _⟩ => ⟨S100x2048x128, .f32⟩
  | .hbm, ⟨28, _⟩ => ⟨S100x128x16x128, .f32⟩
  | .hbm, ⟨29, _⟩ => ⟨S100x128x128x16, .f32⟩
  | .local _ .vmem, ⟨0, _⟩ => ⟨S8192x100, .i8⟩
  | .local _ .vmem, ⟨1, _⟩ => ⟨S8192x100, .i8⟩
  | .local _ .vmem, ⟨2, _⟩ => ⟨S8192x100, .i8⟩
  | .local _ .vmem, ⟨3, _⟩ => ⟨S8192x100, .i8⟩
  | .local _ .vmem, ⟨4, _⟩ => ⟨S20x64x128, .f32⟩
  | .local _ .vmem, ⟨5, _⟩ => ⟨S20x64x128, .f32⟩
  | .local _ .vmem, ⟨6, _⟩ => ⟨S1x64x128, .f32⟩
  | .local _ .vmem, ⟨7, _⟩ => ⟨S1x64x128, .f32⟩
  | .local _ .vmem, ⟨8, _⟩ => ⟨S128x1, .i32⟩
  | .local _ .vmem, ⟨9, _⟩ => ⟨S128x1, .f32⟩
  | .local _ .vmem, ⟨10, _⟩ => ⟨S100x100, .i32⟩
  | .local _ .vmem, ⟨11, _⟩ => ⟨S100x8, .i32⟩
  | .local _ .vmem, ⟨12, _⟩ => ⟨S8x100, .i32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .smem, ⟨0, _⟩ => ⟨S128, .i32⟩
  | .local _ .smem, ⟨1, _⟩ => ⟨S128, .f32⟩
  | _, _ => ⟨S1x100x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v36 : BitVec 1 := Scalar.cmpi .eq arg0 c31_i32
  let v37 : BitVec 32 := Scalar.extui v36
  let c0_i32_25 : BitVec 32 := 0#32
  let v38 : BitVec 1 := Scalar.cmpi .ne v37 c0_i32_25
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x100 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x100 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![100, 4], ![false, false]⟩

abbrev pre1 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  ![v1.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S1x100x21 : Shape := ⟨3, ![1, 100, 21]⟩
abbrev S100x128x128x16 : Shape := ⟨4, ![100, 128, 128, 16]⟩
abbrev S20x128x128x16 : Shape := ⟨4, ![20, 128, 128, 16]⟩
abbrev S100x262144 : Shape := ⟨2, ![100, 262144]⟩
abbrev S_ : Shape := ⟨0, ![]⟩
abbrev S262144x100 : Shape := ⟨2, ![262144, 100]⟩
abbrev S100x100 : Shape := ⟨2, ![100, 100]⟩
abbrev S100 : Shape := ⟨1, ![100]⟩
abbrev S100x1 : Shape := ⟨2, ![100, 1]⟩
abbrev S1x100 : Shape := ⟨2, ![1, 100]⟩
abbrev S1 : Shape := ⟨1, ![1]⟩
abbrev S1x1 : Shape := ⟨2, ![1, 1]⟩
abbrev S1x100x1 : Shape := ⟨3, ![1, 100, 1]⟩
abbrev S100x1x1x1 : Shape := ⟨4, ![100, 1, 1, 1]⟩
abbrev S128x128x16 : Shape := ⟨3, ![128, 128, 16]⟩
abbrev S1x128x128x16 : Shape := ⟨4, ![1, 128, 128, 16]⟩

abbrev nBuf : Space → Nat
  | .hbm => 120
  | .vmem => 0
  | .smem => 0
  | _ => 0

abbrev bufTy : (tb : Table) → Fin (tcTables nBuf tb) → BufTy
  | .hbm, ⟨0, _⟩ => ⟨S1x100x21, .f32⟩
  | .hbm, ⟨1, _⟩ => ⟨S1x100x21, .f32⟩
  | .hbm, ⟨2, _⟩ => ⟨S100x128x128x16, .f32⟩
  | .hbm, ⟨3, _⟩ => ⟨S100x128x128x16, .f32⟩
  | .hbm, ⟨4, _⟩ => ⟨S20x128x128x16, .f32⟩
  | .hbm, ⟨5, _⟩ => ⟨S100x262144, .f32⟩
  | .hbm, ⟨6, _⟩ => ⟨S_, .f32⟩
  | .hbm, ⟨7, _⟩ => ⟨S100x262144, .f32⟩
  | .hbm, ⟨8, _⟩ => ⟨S100x262144, .i1⟩
  | .hbm, ⟨9, _⟩ => ⟨S100x262144, .f32⟩
  | .hbm, ⟨10, _⟩ => ⟨S100x262144, .f32⟩
  | .hbm, ⟨11, _⟩ => ⟨S_, .f32⟩
  | .hbm, ⟨12, _⟩ => ⟨S100x262144, .f32⟩
  | .hbm, ⟨13, _⟩ => ⟨S100x262144, .i1⟩
  | .hbm, ⟨14, _⟩ => ⟨S100x262144, .f32⟩
  | .hbm, ⟨15, _⟩ => ⟨S262144x100, .f32⟩
  | .hbm, ⟨16, _⟩ => ⟨S100x100, .f32⟩
  | .hbm, ⟨17, _⟩ => ⟨S_, .f32⟩
  | .hbm, ⟨18, _⟩ => ⟨S100, .f32⟩
  | .hbm, ⟨19, _⟩ => ⟨S100x1, .f32⟩
  | .hbm, ⟨20, _⟩ => ⟨S_, .f32⟩
  | .hbm, ⟨21, _⟩ => ⟨S100, .f32⟩
  | .hbm, ⟨22, _⟩ => ⟨S1x100, .f32⟩
  | .hbm, ⟨23, _⟩ => ⟨S100x100, .f32⟩
  | .hbm, ⟨24, _⟩ => ⟨S100x100, .f32⟩
  | .hbm, ⟨25, _⟩ => ⟨S100x100, .f32⟩
  | .hbm, ⟨26, _⟩ => ⟨S100x100, .f32⟩
  | .hbm, ⟨27, _⟩ => ⟨S_, .f32⟩
  | .hbm, ⟨28, _⟩ => ⟨S100x100, .f32⟩
  | .hbm, ⟨29, _⟩ => ⟨S100x100, .f32⟩
  | .hbm, ⟨30, _⟩ => ⟨S100x100, .f32⟩
  | .hbm, ⟨31, _⟩ => ⟨S100x100, .i32⟩
  | .hbm, ⟨32, _⟩ => ⟨S_, .f32⟩
  | .hbm, ⟨33, _⟩ => ⟨S_, .i32⟩
  | .hbm, ⟨34, _⟩ => ⟨S100, .f32⟩
  | .hbm, ⟨35, _⟩ => ⟨S100, .i32⟩
  | .hbm, ⟨36, _⟩ => ⟨S_, .f32⟩
  | .hbm, ⟨37, _⟩ => ⟨S100, .f32⟩
  | .hbm, ⟨38, _⟩ => ⟨S_, .f32⟩
  | .hbm, ⟨39, _⟩ => ⟨S100, .f32⟩
  | .hbm, ⟨40, _⟩ => ⟨S100, .i1⟩
  | .hbm, ⟨41, _⟩ => ⟨S_, .i32⟩
  | .hbm, ⟨42, _⟩ => ⟨S100, .i32⟩
  | .hbm, ⟨43, _⟩ => ⟨S100, .i1⟩
  | .hbm, ⟨44, _⟩ => ⟨S_, .i32⟩
  | .hbm, ⟨45, _⟩ => ⟨S100, .i32⟩
  | .hbm, ⟨46, _⟩ => ⟨S100, .i32⟩
  | .hbm, ⟨47, _⟩ => ⟨S100, .i32⟩
  | .hbm, ⟨48, _⟩ => ⟨S100x1, .i32⟩
  | .hbm, ⟨49, _⟩ => ⟨S1, .i32⟩
  | .hbm, ⟨50, _⟩ => ⟨S_, .i32⟩
  | .hbm, ⟨51, _⟩ => ⟨S100x1, .i32⟩
  | .hbm, ⟨52, _⟩ => ⟨S100x1, .i1⟩
  | .hbm, ⟨53, _⟩ => ⟨S1x1, .i32⟩
  | .hbm, ⟨54, _⟩ => ⟨S100x1, .i32⟩
  | .hbm, ⟨55, _⟩ => ⟨S100x1, .i1⟩
  | .hbm, ⟨56, _⟩ => ⟨S100x1, .i1⟩
  | .hbm, ⟨57, _⟩ => ⟨S_, .i1⟩
  | .hbm, ⟨58, _⟩ => ⟨S100, .i1⟩
  | .hbm, ⟨59, _⟩ => ⟨S1x100x21, .f32⟩
  | .hbm, ⟨60, _⟩ => ⟨S1x100x21, .i1⟩
  | .hbm, ⟨61, _⟩ => ⟨S_, .f32⟩
  | .hbm, ⟨62, _⟩ => ⟨S1x100x21, .f32⟩
  | .hbm, ⟨63, _⟩ => ⟨S1x100x21, .f32⟩
  | .hbm, ⟨64, _⟩ => ⟨S_, .i32⟩
  | .hbm, ⟨65, _⟩ => ⟨S100, .i32⟩
  | .hbm, ⟨66, _⟩ => ⟨S100, .i1⟩
  | .hbm, ⟨67, _⟩ => ⟨S_, .i32⟩
  | .hbm, ⟨68, _⟩ => ⟨S100, .i32⟩
  | .hbm, ⟨69, _⟩ => ⟨S100, .i32⟩
  | .hbm, ⟨70, _⟩ => ⟨S100, .i32⟩
  | .hbm, ⟨71, _⟩ => ⟨S100x1, .i32⟩
  | .hbm, ⟨72, _⟩ => ⟨S1, .i32⟩
  | .hbm, ⟨73, _⟩ => ⟨S_, .i32⟩
  | .hbm, ⟨74, _⟩ => ⟨S100x1, .i32⟩
  | .hbm, ⟨75, _⟩ => ⟨S100x1, .i1⟩
  | .hbm, ⟨76, _⟩ => ⟨S1x1, .i32⟩
  | .hbm, ⟨77, _⟩ => ⟨S100x1, .i32⟩
  | .hbm, ⟨78, _⟩ => ⟨S100x1, .i1⟩
  | .hbm, ⟨79, _⟩ => ⟨S100x1, .i1⟩
  | .hbm, ⟨80, _⟩ => ⟨S_, .i1⟩
  | .hbm, ⟨81, _⟩ => ⟨S100, .i1⟩
  | .hbm, ⟨82, _⟩ => ⟨S100x128x128x16, .f32⟩
  | .hbm, ⟨83, _⟩ => ⟨S100x128x128x16, .i1⟩
  | .hbm, ⟨84, _⟩ => ⟨S_, .f32⟩
  | .hbm, ⟨85, _⟩ => ⟨S100x128x128x16, .f32⟩
  | .hbm, ⟨86, _⟩ => ⟨S100x128x128x16, .f32⟩
  | .hbm, ⟨87, _⟩ => ⟨S1x100x1, .i1⟩
  | .hbm, ⟨88, _⟩ => ⟨S1x100x21, .f32⟩
  | .hbm, ⟨89, _⟩ => ⟨S_, .f32⟩
  | .hbm, ⟨90, _⟩ => ⟨S1x100x21, .f32⟩
  | .hbm, ⟨91, _⟩ => ⟨S1x100x21, .f32⟩
  | .hbm, ⟨92, _⟩ => ⟨S1x100x21, .i1⟩
  | .hbm, ⟨93, _⟩ => ⟨S1x100x21, .f32⟩
  | .hbm, ⟨94, _⟩ => ⟨S100x1x1x1, .i1⟩
  | .hbm, ⟨95, _⟩ => ⟨S100x128x128x16, .f32⟩
  | .hbm, ⟨96, _⟩ => ⟨S_, .f32⟩
  | .hbm, ⟨97, _⟩ => ⟨S100x128x128x16, .f32⟩
  | .hbm, ⟨98, _⟩ => ⟨S100x128x128x16, .f32⟩
  | .hbm, ⟨99, _⟩ => ⟨S100x128x128x16, .i1⟩
  | .hbm, ⟨100, _⟩ => ⟨S100x128x128x16, .f32⟩
  | .hbm, ⟨101, _⟩ => ⟨S_, .f32⟩
  | .hbm, ⟨102, _⟩ => ⟨S100, .f32⟩
  | .hbm, ⟨103, _⟩ => ⟨S100, .i1⟩
  | .hbm, ⟨104, _⟩ => ⟨S100, .f32⟩
  | .hbm, ⟨105, _⟩ => ⟨S100x1x1x1, .f32⟩
  | .hbm, ⟨106, _⟩ => ⟨S100x128x128x16, .f32⟩
  | .hbm, ⟨107, _⟩ => ⟨S100x128x128x16, .f32⟩
  | .hbm, ⟨108, _⟩ => ⟨S20x128x128x16, .i32⟩
  | .hbm, ⟨109, _⟩ => ⟨S_, .f32⟩
  | .hbm, ⟨110, _⟩ => ⟨S_, .i32⟩
  | .hbm, ⟨111, _⟩ => ⟨S128x128x16, .f32⟩
  | .hbm, ⟨112, _⟩ => ⟨S128x128x16, .i32⟩
  | .hbm, ⟨113, _⟩ => ⟨S_, .i32⟩
  | .hbm, ⟨114, _⟩ => ⟨S128x128x16, .i32⟩
  | .hbm, ⟨115, _⟩ => ⟨S128x128x16, .i1⟩
  | .hbm, ⟨116, _⟩ => ⟨S128x128x16, .f32⟩
  | .hbm, ⟨117, _⟩ => ⟨S1x128x128x16, .f32⟩
  | .hbm, ⟨118, _⟩ => ⟨S100x128x128x16, .f32⟩
  | .hbm, ⟨119, _⟩ => ⟨S100x128x128x16, .f32⟩
  | _, _ => ⟨S1x100x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v25 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_cst_6 : Ref sig .tc := ⟨.hbm, 89, rfl⟩
abbrev main_v29 : Ref sig .tc := ⟨.hbm, 90, rfl⟩
abbrev main_v30 : Ref sig .tc := ⟨.hbm, 91, rfl⟩
abbrev main_call3_v0 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_7 : Ref sig .tc := ⟨.hbm, 96, rfl⟩
abbrev main_v34 : Ref sig .tc := ⟨.hbm, 97, rfl⟩
abbrev main_v35 : Ref sig .tc := ⟨.hbm, 98, rfl⟩
abbrev main_call4_v0 : Ref sig .tc := ⟨.hbm, 99, rfl⟩
abbrev main_v36 : Ref sig .tc := ⟨.hbm, 100, rfl⟩
abbrev main_cst_8 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_call5_v0 : Ref sig .tc := ⟨.hbm, 108, rfl⟩
abbrev main_call5_cst : Ref sig .tc := ⟨.hbm, 109, rfl⟩
abbrev main_call5_c : Ref sig .tc := ⟨.hbm, 110, rfl⟩
abbrev main_call5_v1_0 : Ref sig .tc := ⟨.hbm, 111, rfl⟩
abbrev main_v43 : Ref sig .tc := ⟨.hbm, 112, rfl⟩
abbrev main_c : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩

abbrev nD : Nat := 1
abbrev τ : Topo := Topo.v7x

variable {F : FTy → Type} [FloatOps F]
-- ==== Proof.ArgMax.lean ====
/-
  The position of the first greatest value of a finite row of extended reals: what it means, that it is unique, and that
  a left fold which keeps the better of two (value, position) pairs ends at it.
-/
module

public import proofs.«01_k».proof.ReferenceIdeal
public import proofs.«01_k».proof.Proof.Gen.ReferenceIdeal
public import Idealize.ShloMosaic.Lib.Pointwise
public import Idealize.ShloMosaic.Lib.IdealHost

@[expose] public section

noncomputable section

namespace Cert.Math

open Idealize.ShloMosaic

/-- Position `k` of the row `x` holds its greatest value and no earlier position does. -/
def IsArg {n : ℕ} (x : Fin n → EReal) (k : Fin n) : Prop := ∀ i, x i < x k ∨ (x i = x k ∧ k ≤ i)

/-- There is one such position at most. -/
theorem IsArg.unique {n : ℕ} {x : Fin n → EReal} {k l : Fin n} (hk : IsArg x k) (hl : IsArg x l) : k = l := by
  rcases hk l with h | ⟨h, h'⟩ <;> rcases hl k with g | ⟨g, g'⟩
  · exact absurd (h.trans g) (lt_irrefl _)
  · rw [g] at h; exact absurd h (lt_irrefl _)
  · rw [h] at g; exact absurd g (lt_irrefl _)
  · exact le_antisymm h' g'

/-- No value exceeds the one there. -/
theorem IsArg.le {n : ℕ} {x : Fin n → EReal} {k : Fin n} (hk : IsArg x k) (i : Fin n) : x i ≤ x k := by
  rcases hk i with h | ⟨h, _⟩
  · exact h.le
  · exact h.le

/-- Folding `max` over a row from the bottom gives the value there. -/
theorem IsArg.fold_max {n : ℕ} {x : Fin n → EReal} {k : Fin n} (hk : IsArg x k) :
    (Finset.univ : Finset (Fin n)).fold max ⊥ x = x k := by
  apply le_antisymm
  · exact Finset.fold_max_le _ |>.mpr ⟨bot_le, fun i _ => hk.le i⟩
  · exact Finset.le_fold_max _ |>.mpr (Or.inr ⟨k, Finset.mem_univ _, le_rfl⟩)

/-- Pair `p` is no worse than pair `e`: a greater value, or the same value at no later a position. -/
def Better (p e : EReal × BitVec 32) : Prop := e.1 < p.1 ∨ (e.1 = p.1 ∧ p.2.toInt ≤ e.2.toInt)

theorem Better.refl (p : EReal × BitVec 32) : Better p p := Or.inr ⟨rfl, le_rfl⟩

theorem Better.trans {p q r : EReal × BitVec 32} (h : Better p q) (g : Better q r) : Better p r := by
  rcases h with h | ⟨h, h'⟩ <;> rcases g with g | ⟨g, g'⟩
  · exact Or.inl (g.trans h)
  · exact Or.inl (g ▸ h)
  · exact Or.inl (h ▸ g)
  · exact Or.inr ⟨g.trans h, h'.trans g'⟩

/-- A fold by an operation that keeps the better of its two arguments ends at a member no worse than any. -/
theorem foldl_better (f : EReal × BitVec 32 → EReal × BitVec 32 → EReal × BitVec 32)
    (hf : ∀ a b, (f a b = a ∨ f a b = b) ∧ Better (f a b) a ∧ Better (f a b) b) (l : List (EReal × BitVec 32)) :
    ∀ p, (l.foldl f p = p ∨ l.foldl f p ∈ l) ∧ Better (l.foldl f p) p ∧ ∀ e ∈ l, Better (l.foldl f p) e := by
  induction l with
  | nil => intro p; exact ⟨Or.inl rfl, Better.refl p, fun e he => absurd he List.not_mem_nil⟩
  | cons a l ih =>
    intro p
    obtain ⟨h1, h2, h3⟩ := ih (f p a)
    obtain ⟨g1, g2, g3⟩ := hf p a
    refine ⟨?_, h2.trans g2, ?_⟩
    · rcases h1 with h1 | h1
      · rcases g1 with g1 | g1
        · exact Or.inl (h1.trans g1)
        · exact Or.inr (by rw [List.foldl_cons, h1, g1]; exact List.mem_cons_self)
      · exact Or.inr (List.mem_cons_of_mem _ h1)
    · intro e he
      rcases List.mem_cons.mp he with rfl | he
      · exact h2.trans g3
      · exact h3 e he

/-- The reference's comparison of two (value, position) pairs keeps the better one. -/
theorem reducer_better (a b : EReal × BitVec 32) :
    (Cert.ReferenceIdeal.reducer_argmax_f32_i32 (F := Ideal) a b = a ∨ Cert.ReferenceIdeal.reducer_argmax_f32_i32 (F := Ideal) a b = b)
      ∧ Better (Cert.ReferenceIdeal.reducer_argmax_f32_i32 (F := Ideal) a b) a
      ∧ Better (Cert.ReferenceIdeal.reducer_argmax_f32_i32 (F := Ideal) a b) b := by
  obtain ⟨x, i⟩ := a
  obtain ⟨y, j⟩ := b
  have hs : IntOp.cmpi .slt i j = if i.toInt < j.toInt then 1#1 else 0#1 := by
    simp only [IntOp.cmpi, BitVec.slt]
    by_cases h : i.toInt < j.toInt <;> simp [h]
  rcases lt_trichotomy x y with h | h | h
  · have e : Cert.ReferenceIdeal.reducer_argmax_f32_i32 (F := Ideal) (x, i) (y, j) = (y, j) := by
      simp [Cert.ReferenceIdeal.reducer_argmax_f32_i32, Ideal.cmpf_def, Ideal.cmp, Scalar.select, IntOp.ori, IntOp.andi, h.not_gt, h.ne]
    rw [e]
    exact ⟨Or.inr rfl, Or.inl h, Better.refl _⟩
  · subst h
    by_cases hij : i.toInt < j.toInt
    · have e : Cert.ReferenceIdeal.reducer_argmax_f32_i32 (F := Ideal) (x, i) (x, j) = (x, i) := by
        simp [Cert.ReferenceIdeal.reducer_argmax_f32_i32, Ideal.cmpf_def, Ideal.cmp, Scalar.select, IntOp.ori, IntOp.andi, hs, hij]
      rw [e]
      exact ⟨Or.inl rfl, Better.refl _, Or.inr ⟨rfl, hij.le⟩⟩
    · have e : Cert.ReferenceIdeal.reducer_argmax_f32_i32 (F := Ideal) (x, i) (x, j) = (x, j) := by
        simp [Cert.ReferenceIdeal.reducer_argmax_f32_i32, Ideal.cmpf_def, Ideal.cmp, Scalar.select, IntOp.ori, IntOp.andi, hs, hij]
      rw [e]
      exact ⟨Or.inr rfl, Or.inr ⟨rfl, not_lt.mp hij⟩, Better.refl _⟩
  · have e : Cert.ReferenceIdeal.reducer_argmax_f32_i32 (F := Ideal) (x, i) (y, j) = (x, i) := by
      simp [Cert.ReferenceIdeal.reducer_argmax_f32_i32, Ideal.cmpf_def, Ideal.cmp, Scalar.select, IntOp.ori, IntOp.andi, h, h.ne']
    rw [e]
    exact ⟨Or.inl rfl, Better.refl _, Or.inl h⟩

theorem toInt_ofNat {k : ℕ} (hk : k < 2 ^ 31) : (BitVec.ofNat 32 k).toInt = k := by
  have e : (BitVec.ofNat 32 k).toNat = k := by
    rw [BitVec.toNat_ofNat]; omega
  rw [BitVec.toInt_eq_toNat_of_lt (by rw [e]; omega), e]

/-- A list of a row's (value, position) pairs, folded from the pair (bottom, 0): the position reached is the first of a greatest value. -/
theorem foldl_arg {n : ℕ} (hn : 0 < n) (hn' : n ≤ 2 ^ 31) (x : Fin n → EReal) (l : List (EReal × BitVec 32))
    (hl : ∀ e, e ∈ l ↔ ∃ k : Fin n, (x k, BitVec.ofNat 32 k.val) = e) :
    ∃ k : Fin n, (l.foldl (Cert.ReferenceIdeal.reducer_argmax_f32_i32 (F := Ideal)) (⊥, 0#32)).2 = BitVec.ofNat 32 k.val ∧ IsArg x k := by
  obtain ⟨h1, h2, h3⟩ := foldl_better _ reducer_better l (⊥, 0#32)
  have hx : ∀ k : Fin n, Better (l.foldl (Cert.ReferenceIdeal.reducer_argmax_f32_i32 (F := Ideal)) (⊥, 0#32)) (x k, BitVec.ofNat 32 k.val) :=
    fun k => h3 _ ((hl _).mpr ⟨k, rfl⟩)
  generalize l.foldl (Cert.ReferenceIdeal.reducer_argmax_f32_i32 (F := Ideal)) (⊥, 0#32) = p at h1 h2 h3 hx ⊢
  rcases h1 with h1 | h1
  · subst h1
    refine ⟨⟨0, hn⟩, rfl, fun i => ?_⟩
    have hb : ∀ i, x i = ⊥ := fun i => by
      rcases hx i with h | ⟨h, _⟩
      · exact absurd h not_lt_bot
      · exact h
    exact Or.inr ⟨by rw [hb, hb], Nat.zero_le _⟩
  · obtain ⟨k, rfl⟩ := (hl _).mp h1
    refine ⟨k, rfl, fun i => ?_⟩
    rcases hx i with h | ⟨h, h'⟩
    · exact Or.inl h
    · rw [toInt_ofNat (by have := k.isLt; omega), toInt_ofNat (by have := i.isLt; omega)] at h'
      exact Or.inr ⟨h, by exact_mod_cast h'⟩

/-- The word of minus infinity is the bottom. -/
theorem ofBits_neg_inf : Ideal.ofBits .f32 0xFF800000#32 = ⊥ := by
  simp [Ideal.ofBits, Ideal.ieee]

end Cert.Math

end

end
-- ==== Proof.Spec.lean ====
/-
  The mathematics both programs compute, over plain extended reals: the voxel counts of the thresholded masks, the
  intersection over union of two masks, whether a voxel's class is free space, and the merged mask.
-/
module

public import proofs.«01_k».proof.Proof.ArgMax

@[expose] public section

noncomputable section

namespace Cert.Math

open Idealize.ShloMosaic

/-- A hundred masks over a 128 × 128 × 16 grid. -/
abbrev Masks := Fin 100 → Fin 128 → Fin 128 → Fin 16 → EReal

/-- Twenty class scores over the grid. -/
abbrev Scores := Fin 20 → Fin 128 → Fin 128 → Fin 16 → EReal

/-- One where a value exceeds one half, else zero. -/
def ind (x : EReal) : ℕ := if Ideal.ofBits .f32 0x3F000000#32 < x then 1 else 0

theorem ind_le (x : EReal) : ind x ≤ 1 := by unfold ind; split <;> omega

/-- Mask `q` at the `v`-th voxel of the grid, row-major. -/
def vox (A : Masks) (q : Fin 100) (v : Fin 262144) : EReal :=
  A q ⟨v.val / 2048, by omega⟩ ⟨v.val / 16 % 128, by omega⟩ ⟨v.val % 16, by omega⟩

/-- How many voxels two thresholded masks share. -/
def both (A B : Masks) (q r : Fin 100) : ℕ := ∑ v : Fin 262144, ind (vox A q v) * ind (vox B r v)

/-- How many voxels a thresholded mask has. -/
def area (A : Masks) (q : Fin 100) : ℕ := ∑ v : Fin 262144, ind (vox A q v)

/-- Intersection over union, the union no less than one. -/
def iou (A B : Masks) (q r : Fin 100) : EReal :=
  Ideal.div ((both A B q r : ℝ) : EReal) (max ((area A q : ℝ) + (area B r : ℝ) - (both A B q r : ℝ)) 1)

/-- One at a voxel where some class scores above class zero, else zero. -/
def full (s : Scores) (x y : Fin 128) (z : Fin 16) : EReal := if ∃ c, s 0 x y z < s c x y z then 1 else 0

/-- The merged mask at a voxel, once the best match of query `q` is known to be `k`. -/
def merged (A B : Masks) (s : Scores) (q k : Fin 100) (x y : Fin 128) (z : Fin 16) : EReal :=
  if Ideal.ofBits .f32 0x3E4CCCCD#32 < iou A B q k then Ideal.div (A q x y z + B k x y z) 2 * full s x y z else 0

/-- The first best class is not class zero exactly where some class scores above class zero. -/
theorem IsArg.ne_zero_iff {n : ℕ} {x : Fin (n + 1) → EReal} {k : Fin (n + 1)} (hk : IsArg x k) : k ≠ 0 ↔ ∃ c, x 0 < x c := by
  constructor
  · intro h
    rcases hk 0 with g | ⟨_, g⟩
    · exact ⟨k, g⟩
    · exact absurd (Fin.le_zero_iff.mp g) h
  · rintro ⟨c, hc⟩ rfl
    exact absurd (hk.le c) (not_le.mpr hc)

/-- The word of two. -/
theorem ofBits_two : Ideal.ofBits .f32 0x40000000#32 = 2 := by
  rw [show (2 : EReal) = ((2 : ℝ) : EReal) by norm_cast]
  simp [Ideal.ofBits, Ideal.ieee, -EReal.coe_mul]; norm_num

/-- The word of one half. -/
theorem ofBits_half : Ideal.ofBits .f32 0x3F000000#32 = (2 : EReal)⁻¹ := by
  rw [show (2 : EReal) = ((2 : ℝ) : EReal) by norm_cast, ← EReal.coe_inv]
  simp [Ideal.ofBits, Ideal.ieee, -EReal.coe_mul]; norm_num

/-- Dividing by two is multiplying by a half. -/
theorem div_two (x : EReal) : Ideal.div x 2 = x * (2 : EReal)⁻¹ := by
  unfold Ideal.div
  rw [if_neg (by norm_num)]

/-- A sum of counts, as an extended real, is the sum of the counts as extended reals. -/
theorem coe_sum {ι : Type} (t : Finset ι) (f : ι → ℕ) : (((∑ i ∈ t, f i : ℕ) : ℝ) : EReal) = ∑ i ∈ t, ((f i : ℝ) : EReal) := by
  classical
  induction t using Finset.induction_on with
  | empty => simp
  | insert a t h ih => rw [Finset.sum_insert h, Finset.sum_insert h, Nat.cast_add, EReal.coe_add, ih]

/-- A mask array, coordinate by coordinate. -/
abbrev masks (A : (⟨4, ![100, 128, 128, 16]⟩ : Shape).Idx → EReal) : Masks := fun q x y z => A (ix4 q x y z)

/-- A score array, coordinate by coordinate. -/
abbrev scores (s : (⟨4, ![20, 128, 128, 16]⟩ : Shape).Idx → EReal) : Scores := fun q x y z => s (ix4 q x y z)

/-- A condition's bit as an extended real. -/
theorem coe_bit (p : Prop) [Decidable p] :
    FloatOps.uitofp (F := Ideal) .f32 (BitVec.ofBool (decide p)) = if p then (1 : EReal) else 0 := by
  show (((BitVec.ofBool (decide p)).toNat : ℝ) : EReal) = _
  by_cases h : p <;> simp [h]

end Cert.Math

end

end
-- ==== Proof.Count.lean ====
/-
  Counting the voxels in the order the kernels hold them: the counts are the same, and a count over the first blocks of
  8192 voxels grows by one block's count.
-/
module

public import proofs.«01_k».proof.Proof.Spec

@[expose] public section

noncomputable section

namespace Cert.Math

open Idealize.ShloMosaic

/-- Mask `q` at the `v`-th voxel, the depth counted before the width. -/
def kvox (A : Masks) (q : Fin 100) (v : Fin 262144) : EReal :=
  A q ⟨v.val / 128 / 16, by omega⟩ ⟨v.val % 128, by omega⟩ ⟨v.val / 128 % 16, by omega⟩

/-- The three digits of a voxel's number, the width's 128 places after the depth's 16. -/
theorem digits {a b c : ℕ} (hb : b < 16) (hc : c < 128) :
    (2048 * a + 128 * b + c) / 2048 = a ∧ (2048 * a + 128 * b + c) % 128 = c ∧ (2048 * a + 128 * b + c) / 128 % 16 = b ∧ (2048 * a + 128 * b + c) / 128 / 16 = a := by
  have e : (2048 * a + 128 * b + c) / 128 = 16 * a + b := by omega
  refine ⟨by omega, by omega, ?_, ?_⟩ <;> rw [e] <;> omega

/-- The three digits of a voxel's number, the depth's 16 places last. -/
theorem digits' {a b c : ℕ} (hb : b < 16) (hc : c < 128) :
    (2048 * a + 16 * c + b) / 2048 = a ∧ (2048 * a + 16 * c + b) % 16 = b ∧ (2048 * a + 16 * c + b) / 16 % 128 = c := by
  have e : (2048 * a + 16 * c + b) / 16 = 128 * a + c := by omega
  refine ⟨by omega, by omega, ?_⟩
  rw [e]; omega

/-- A number is its three digits. -/
theorem split_k (v : ℕ) : v = 2048 * (v / 2048) + 128 * (v / 128 % 16) + v % 128 := by
  have e : v / 2048 = v / 128 / 16 := by rw [Nat.div_div_eq_div_mul]
  rw [e]; omega

/-- A number is its three digits, the depth's last. -/
theorem split_r (v : ℕ) : v = 2048 * (v / 2048) + 16 * (v / 16 % 128) + v % 16 := by
  have e : v / 2048 = v / 16 / 128 := by rw [Nat.div_div_eq_div_mul]
  rw [e]; omega

/-- The row-major number of the voxel the kernels number `v`. -/
def renum : Fin 262144 ≃ Fin 262144 where
  toFun v := ⟨2048 * (v.val / 2048) + 16 * (v.val % 128) + v.val / 128 % 16, by
    have h1 : v.val / 2048 < 128 := by omega
    have h2 : v.val % 128 < 128 := by omega
    have h3 : v.val / 128 % 16 < 16 := by omega
    generalize v.val / 2048 = a at *
    generalize v.val % 128 = b at *
    generalize v.val / 128 % 16 = c at *
    omega⟩
  invFun v := ⟨2048 * (v.val / 2048) + 128 * (v.val % 16) + v.val / 16 % 128, by
    have h1 : v.val / 2048 < 128 := by omega
    have h2 : v.val % 16 < 16 := by omega
    have h3 : v.val / 16 % 128 < 128 := by omega
    generalize v.val / 2048 = a at *
    generalize v.val % 16 = b at *
    generalize v.val / 16 % 128 = c at *
    omega⟩
  left_inv v := by
    refine Fin.ext ?_
    dsimp only
    obtain ⟨e1, e2, e3⟩ := digits' (a := v.val / 2048) (b := v.val / 128 % 16) (c := v.val % 128) (Nat.mod_lt _ (by norm_num)) (Nat.mod_lt _ (by norm_num))
    rw [e1, e2, e3]
    exact (split_k v.val).symm
  right_inv v := by
    refine Fin.ext ?_
    dsimp only
    obtain ⟨e1, e2, e3, _⟩ := digits (a := v.val / 2048) (b := v.val % 16) (c := v.val / 16 % 128) (Nat.mod_lt _ (by norm_num)) (Nat.mod_lt _ (by norm_num))
    rw [e1, e2, e3]
    exact (split_r v.val).symm

theorem vox_renum (A : Masks) (q : Fin 100) (v : Fin 262144) : vox A q (renum v) = kvox A q v := by
  obtain ⟨e1, e2, e3⟩ := digits' (a := v.val / 2048) (b := v.val / 128 % 16) (c := v.val % 128) (Nat.mod_lt _ (by norm_num)) (Nat.mod_lt _ (by norm_num))
  have e4 : v.val / 2048 = v.val / 128 / 16 := by rw [Nat.div_div_eq_div_mul]
  have h1 : (⟨(renum v).val / 2048, by omega⟩ : Fin 128) = ⟨v.val / 128 / 16, by omega⟩ := Fin.ext (e1.trans e4)
  have h2 : (⟨(renum v).val / 16 % 128, by omega⟩ : Fin 128) = ⟨v.val % 128, by omega⟩ := Fin.ext e3
  have h3 : (⟨(renum v).val % 16, by omega⟩ : Fin 16) = ⟨v.val / 128 % 16, by omega⟩ := Fin.ext e2
  unfold vox kvox
  rw [h1, h2, h3]

/-- The indicator at the kernels' `v`-th voxel, zero past the end. -/
def kind (A : Masks) (q : Fin 100) (v : ℕ) : ℕ := if h : v < 262144 then ind (kvox A q ⟨v, h⟩) else 0

theorem kind_le (A : Masks) (q : Fin 100) (v : ℕ) : kind A q v ≤ 1 := by
  unfold kind; split
  · exact ind_le _
  · omega

/-- The shared voxels among the kernels' first `n`. -/
def bothTo (A B : Masks) (q r : Fin 100) (n : ℕ) : ℕ := ∑ v ∈ Finset.range n, kind A q v * kind B r v

/-- The voxels of a mask among the kernels' first `n`. -/
def areaTo (A : Masks) (q : Fin 100) (n : ℕ) : ℕ := ∑ v ∈ Finset.range n, kind A q v

theorem bothTo_all (A B : Masks) (q r : Fin 100) : bothTo A B q r 262144 = both A B q r := by
  unfold bothTo both
  rw [Finset.sum_range]
  refine Eq.trans ?_ (Equiv.sum_comp renum _)
  refine Finset.sum_congr rfl fun v _ => ?_
  rw [vox_renum, vox_renum, kind, kind, dif_pos v.isLt, dif_pos v.isLt]

theorem areaTo_all (A : Masks) (q : Fin 100) : areaTo A q 262144 = area A q := by
  unfold areaTo area
  rw [Finset.sum_range]
  refine Eq.trans ?_ (Equiv.sum_comp renum _)
  refine Finset.sum_congr rfl fun v _ => ?_
  rw [vox_renum, kind, dif_pos v.isLt]

theorem bothTo_block (A B : Masks) (q r : Fin 100) (n : ℕ) :
    bothTo A B q r (8192 * (n + 1)) = bothTo A B q r (8192 * n) + ∑ k : Fin 8192, kind A q (8192 * n + k) * kind B r (8192 * n + k) := by
  unfold bothTo
  rw [Nat.mul_succ, Finset.sum_range_add, Finset.sum_range (n := 8192)]

theorem areaTo_block (A : Masks) (q : Fin 100) (n : ℕ) :
    areaTo A q (8192 * (n + 1)) = areaTo A q (8192 * n) + ∑ k : Fin 8192, kind A q (8192 * n + k) := by
  unfold areaTo
  rw [Nat.mul_succ, Finset.sum_range_add, Finset.sum_range (n := 8192)]

theorem both_le (A B : Masks) (q r : Fin 100) : both A B q r ≤ 262144 := by
  unfold both
  refine (Finset.sum_le_card_nsmul _ _ 1 fun v _ => ?_).trans (by simp)
  exact (Nat.mul_le_mul (ind_le _) (ind_le _)).trans (by omega)

theorem area_le (A : Masks) (q : Fin 100) : area A q ≤ 262144 := by
  unfold area
  exact (Finset.sum_le_card_nsmul _ _ 1 fun v _ => ind_le _).trans (by simp)

end Cert.Math

end

end
-- ==== Proof.KerHost.lean ====
/-
  What the host computes around the two kernels: the arguments laid out for them, the thresholded masks, the tables
  flattened, and the result laid back out.
-/
module

public import proofs.«01_k».proof.Proof.Count
public import proofs.«01_k».proof.Proof.Gen.KernelIdeal.Regions
public import Idealize.ShloMosaic.Lib.StableHlo.RunRead
public import Idealize.ShloMosaic.Lib.Pointwise

@[expose] public section

noncomputable section

namespace Cert.KernelIdeal.Val

open Idealize.ShloMosaic Cert.KernelIdeal Cert.Math
open Cert.KernelIdeal.Gen (V0 V1 V2 V3 V4 V5 Outs hostOps0 hostOps1 hostOps2)
open Cert.KernelIdeal.Facts Cert.KernelIdeal.Facts₀

/-- A mask array laid out for the kernels: the depth before the width, the lanes last. -/
def flat (A : Vec Ideal S100x128x128x16 .f32) : Vec Ideal S100x2048x128 .f32 :=
  shapeCast S100x2048x128 (transpose S100x128x16x128 [0, 1, 3, 2] A transposes_S100x128x128x16_S100x128x16x128_0_1_3_2) shapeCasts_S100x128x16x128_S100x2048x128

/-- A score array laid out for the kernels. -/
def flatS (s : Vec Ideal S20x128x128x16 .f32) : Vec Ideal S20x2048x128 .f32 :=
  shapeCast S20x2048x128 (transpose S20x128x16x128 [0, 1, 3, 2] s transposes_S20x128x128x16_S20x128x16x128_0_1_3_2) shapeCasts_S20x128x16x128_S20x2048x128

/-- The thresholded masks, one column a mask. -/
def thr (x : Vec Ideal S100x2048x128 .f32) : Vec Ideal S262144x100 .i8 :=
  extui 8 (cmpf .ogt (transpose S262144x100 [1, 0] (shapeCast S100x262144 x shapeCasts_S100x2048x128_S100x262144) transposes_S100x262144_S262144x100_1_0)
    (broadcastInDim S262144x100 ![] bcast_S_S262144x100 (constant (F := Ideal) S_ .f32 0x3F000000#32))) natLt_1_8

/-- The result laid back out. -/
def unflat (x : Vec Ideal S100x2048x128 .f32) : Vec Ideal S100x128x128x16 .f32 :=
  transpose S100x128x128x16 [0, 1, 3, 2] (shapeCast S100x128x16x128 x shapeCasts_S100x2048x128_S100x128x16x128) transposes_S100x128x16x128_S100x128x128x16_0_1_3_2

variable (m : (ℓ : Loc nD τ sig) → Buf (Elt Ideal) ℓ) (outs : Outs (F := Ideal)) (c : Dev nD)

/-- The first masks, laid out. -/
theorem V1_v1 : V1 m c (Proc.devRef .tc main_v1) = flat (m ((c.tc : Thread nD τ).loc main_arg2)) := by
  unfold flat; after_results; rfl
/-- The second masks, laid out. -/
theorem V1_v3 : V1 m c (Proc.devRef .tc main_v3) = flat (m ((c.tc : Thread nD τ).loc main_arg3)) := by
  unfold flat; after_results; rfl
/-- The scores, laid out. -/
theorem V1_v5 : V1 m c (Proc.devRef .tc main_v5) = flatS (m ((c.tc : Thread nD τ).loc main_arg4)) := by
  unfold flatS; after_results; rfl
/-- The first masks, thresholded. -/
theorem V1_v10 : V1 m c (Proc.devRef .tc main_v10) = thr (flat (m ((c.tc : Thread nD τ).loc main_arg2))) := by
  unfold thr flat; after_results; rfl
/-- The second masks, thresholded. -/
theorem V1_v15 : V1 m c (Proc.devRef .tc main_v15) = thr (flat (m ((c.tc : Thread nD τ).loc main_arg3))) := by
  unfold thr flat; after_results; rfl

/-- The table of matches, flattened. -/
theorem V3_v17 : V3 m outs c (Proc.devRef .tc main_v17) = shapeCast S128 (outs 2 main_v16_1 c) shapeCasts_S128x1_S128 := by
  after_results; rfl
/-- The table of scales, flattened. -/
theorem V3_v18 : V3 m outs c (Proc.devRef .tc main_v18) = shapeCast S128 (outs 2 main_v16_2 c) shapeCasts_S128x1_S128 := by
  after_results; rfl
/-- The result. -/
theorem V5_v21 : V5 m outs c (Proc.devRef .tc main_v21) = unflat (outs 4 main_v19 c) := by
  unfold unflat; after_results; rfl

variable (A : Vec Ideal S100x128x128x16 .f32) (s : Vec Ideal S20x128x128x16 .f32)

/-- A laid-out mask at an index. -/
theorem flat_apply (q : Fin 100) (u : Fin 2048) (l : Fin 128) : flat A (ix3 q u l) = A (ix4 q ⟨u.val / 16, by omega⟩ l ⟨u.val % 16, by omega⟩) := by
  pointwise [flat]

/-- A laid-out score at an index. -/
theorem flatS_apply (q : Fin 20) (u : Fin 2048) (l : Fin 128) : flatS s (ix3 q u l) = s (ix4 q ⟨u.val / 16, by omega⟩ l ⟨u.val % 16, by omega⟩) := by
  pointwise [flatS]

/-- A thresholded mask at an index. -/
theorem thr_apply (x : Vec Ideal S100x2048x128 .f32) (q : Fin 100) (v : Fin 262144) :
    thr x (ix2 v q) = BitVec.ofNat 8 (ind (x (ix3 q ⟨v.val / 128, by omega⟩ ⟨v.val % 128, by omega⟩))) := by
  pointwise [thr]
  unfold ind
  split
  · rename_i h
    rw [decide_eq_true h]; rfl
  · rename_i h
    rw [decide_eq_false h]; rfl

/-- A thresholded laid-out mask at an index. -/
theorem thr_flat_apply (q : Fin 100) (v : Fin 262144) : thr (flat A) (ix2 v q) = BitVec.ofNat 8 (ind (kvox (masks A) q v)) := by
  rw [thr_apply, flat_apply]; rfl

/-- The result at an index. -/
theorem unflat_apply (x : Vec Ideal S100x2048x128 .f32) (q : Fin 100) (a b : Fin 128) (z : Fin 16) :
    unflat x (ix4 q a b z) = x (ix3 q ⟨a.val * 16 + z.val, by omega⟩ b) := by
  pointwise [unflat]

end Cert.KernelIdeal.Val

end

end
-- ==== Proof.ABody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Exec
public import Idealize.ShloMosaic.Lib.Pipeline.Kit

/-! The first kernel's body on any staging buffers: what each of its three kinds of grid point (the first, the ones between, the last)
    leaves in the outputs and in the three scratch arrays, as plain functions of the input blocks and of what the scratch held. -/

@[expose] public section

noncomputable section

namespace Cert.KernelIdeal.PassA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- The first branch of the body (the three scratch arrays zeroed) is taken. -/
abbrev isFirst (i : grid0.Coords) : Prop := (Scalar.cmpi .ne (Scalar.extui (Scalar.cmpi .eq (BitVec.ofNat 32 (i 0).val) 0#32)) 0#32) = 1#1
/-- The second branch of the body (the matching of the queries) is taken. -/
abbrev isLast (i : grid0.Coords) : Prop := k0_cond2 i = 1#1

/-- The first column of the areas of the first argument's masks (the kernel keeps eight equal columns). -/
def colOf (x : Vec F S100x8 .i32) : Vec F S100x1 .i32 := fun y => x ((Rect.unit (s := S100x8) ![0, 0] S100x1.size inb_S100x8_S100x1_0_0).emb y)
/-- The first row of the areas of the second argument's masks (the kernel keeps eight equal rows). -/
def rowOf (x : Vec F S8x100 .i32) : Vec F S1x100 .i32 := fun y => x ((Rect.unit (s := S8x100) ![0, 0] S1x100.size inb_S8x100_S1x100_0_0).emb y)

/-- A load of any window after a store of the whole buffer reads that window of the stored values. -/
theorem readCov_window {κ : Kind} {sp : Space} {s : Shape} {e : EltTy} (v : View sig κ sp s e) {off : Fin s.rank → ℕ}
    (inb : ∀ a, off a + s.size a ≤ s.size a) (w : (Rect.unit off s.size inb).shape.Idx → Elt F e) (L : List (View.Piece (Elt F) s e)) (r : Rect s) :
    v.readCov (⟨Rect.unit off s.size inb, w⟩ :: L) r.toLoadRect = fun y => (w : s.Idx → Elt F e) (r.emb y) := by
  funext y
  show v.read (Elt F) (v.writes (Elt F) v.junk _) (r.emb y) = _
  rw [View.read_writes_full]

/-- A function of two arguments takes equal arguments to equal results. -/
theorem congr2 {α β γ : Type} (f : α → β → γ) {a a' : α} {b b' : β} (ha : a = a') (hb : b = b') : f a b = f a' b' := by rw [ha, hb]
/-- A function of three arguments takes equal arguments to equal results. -/
theorem congr3 {α β γ δ : Type} (f : α → β → γ → δ) {a a' : α} {b b' : β} {c c' : γ} (ha : a = a') (hb : b = b') (hc : c = c') : f a b c = f a' b' c' := by rw [ha, hb, hc]

variable (𝒱₀ : Variants)

set_option maxHeartbeats 1000000 in
/-- First point: the scratch is zeroed, then takes the point's counts; the two per-query outputs are left as they were. -/
theorem body_first (c : Dev nD) (i : grid0.Coords) (arg1 : Memref sig .tc .vmem S8192x100 .i8) (harg1 : arg1.IsWhole) (arg2 : Memref sig .tc .vmem S8192x100 .i8) (harg2 : arg2.IsWhole) (arg3 : Memref sig .tc .vmem S20x64x128 .f32) (harg3 : arg3.IsWhole) (arg4 : Memref sig .tc .vmem S1x64x128 .f32) (harg4 : arg4.IsWhole) (arg5 : Memref sig .tc .vmem S128x1 .i32) (harg5 : arg5.IsWhole) (arg6 : Memref sig .tc .vmem S128x1 .f32) (harg6 : arg6.IsWhole) (arg7 : Memref sig .tc .vmem S100x100 .i32) (harg7 : arg7.IsWhole) (arg8 : Memref sig .tc .vmem S100x8 .i32) (harg8 : arg8.IsWhole) (arg9 : Memref sig .tc .vmem S8x100 .i32) (harg9 : arg9.IsWhole) (hc0 : isFirst i) (hc1 : ¬isLast i)
    (x0 x1 : Vec F S8192x100 .i8) (x2 : Vec F S20x64x128 .f32)  (xi4 : Vec F S128x1 .i32) (xi5 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay1 (F := F) (k0_pay15 x2) (k0_pay16 x2)) ∗ owns (c : Thread nD τ) arg5 fullShare xi4 ∗ owns (c : Thread nD τ) arg6 fullShare xi5 ∗ owns (c : Thread nD τ) arg7 fullShare (k0_pay12 (F := F) x0 x1 k0_pay6) ∗ owns (c : Thread nD τ) arg8 fullShare (k0_pay13 (F := F) x0 k0_pay7) ∗ owns (c : Thread nD τ) arg9 fullShare (k0_pay14 (F := F) x1 k0_pay8)) -∗ K ⟨⟩))
      ⊢ wp frame (wpE (defs₀ (F := F)) 𝒱₀ c none) E (cc0__pass_a_body i arg1 harg1 arg2 harg2 arg3 harg3 arg4 harg4 arg5 harg5 arg6 harg6 arg7 harg7 arg8 harg8 arg9 harg9) K := by
  simp only [cc0__pass_a_body_eq_skeleton]; unfold cc0__pass_a_body_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg5.eq_unread hf4; obtain rfl := harg6.eq_unread hf5
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    (try unfold body_first.sl.r); (try unfold body_first.sl.r_1); (try unfold body_first.sl.v8); (try unfold body_first.sl.v14); (try unfold body_first.sl.v20); (try unfold body_first.sl.HS0_1); (try unfold body_first.sl.HS1_1); (try unfold body_first.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  isplitl [H4]
  · iexists _; isplitr; · ipureintro; exact harg5.read_unread _
    iexact H4
  isplitl [H5]
  · iexists _; isplitr; · ipureintro; exact harg6.read_unread _
    iexact H5
  isplitl [HS0]
  · iexists _; isplitr
    swap; · iexact HS0
    ipureintro
    (try unfold body_first.sl.r); (try unfold body_first.sl.r_1); (try unfold body_first.sl.v8); (try unfold body_first.sl.v14); (try unfold body_first.sl.v20); (try unfold body_first.sl.HS0_1); (try unfold body_first.sl.HS1_1); (try unfold body_first.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  isplitl [HS1]
  · iexists _; isplitr
    swap; · iexact HS1
    ipureintro
    (try unfold body_first.sl.r); (try unfold body_first.sl.r_1); (try unfold body_first.sl.v8); (try unfold body_first.sl.v14); (try unfold body_first.sl.v20); (try unfold body_first.sl.HS0_1); (try unfold body_first.sl.HS1_1); (try unfold body_first.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  iexists _; isplitr
  swap; · iexact HS2
  ipureintro
  (try unfold body_first.sl.r); (try unfold body_first.sl.r_1); (try unfold body_first.sl.v8); (try unfold body_first.sl.v14); (try unfold body_first.sl.v20); (try unfold body_first.sl.HS0_1); (try unfold body_first.sl.HS1_1); (try unfold body_first.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)

set_option maxHeartbeats 1000000 in
/-- A point between: the scratch takes the point's counts on top of what it held; the two per-query outputs are left as they were. -/
theorem body_mid (c : Dev nD) (i : grid0.Coords) (arg1 : Memref sig .tc .vmem S8192x100 .i8) (harg1 : arg1.IsWhole) (arg2 : Memref sig .tc .vmem S8192x100 .i8) (harg2 : arg2.IsWhole) (arg3 : Memref sig .tc .vmem S20x64x128 .f32) (harg3 : arg3.IsWhole) (arg4 : Memref sig .tc .vmem S1x64x128 .f32) (harg4 : arg4.IsWhole) (arg5 : Memref sig .tc .vmem S128x1 .i32) (harg5 : arg5.IsWhole) (arg6 : Memref sig .tc .vmem S128x1 .f32) (harg6 : arg6.IsWhole) (arg7 : Memref sig .tc .vmem S100x100 .i32) (harg7 : arg7.IsWhole) (arg8 : Memref sig .tc .vmem S100x8 .i32) (harg8 : arg8.IsWhole) (arg9 : Memref sig .tc .vmem S8x100 .i32) (harg9 : arg9.IsWhole) (hc0 : ¬isFirst i) (hc1 : ¬isLast i)
    (x0 x1 : Vec F S8192x100 .i8) (x2 : Vec F S20x64x128 .f32) (xs0 : Vec F S100x100 .i32) (xs1 : Vec F S100x8 .i32) (xs2 : Vec F S8x100 .i32) (xi4 : Vec F S128x1 .i32) (xi5 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ owns (c : Thread nD τ) arg8 fullShare xs1 ∗ owns (c : Thread nD τ) arg9 fullShare xs2
        ∗ (iprop(owns (c : Thread nD τ) arg1 fullShare x0 ∗ owns (c : Thread nD τ) arg2 fullShare x1 ∗ owns (c : Thread nD τ) arg3 fullShare x2 ∗ owns (c : Thread nD τ) arg4 fullShare (k0_pay1 (F := F) (k0_pay15 x2) (k0_pay16 x2)) ∗ owns (c : Thread nD τ) arg5 fullShare xi4 ∗ owns (c : Thread nD τ) arg6 fullShare xi5 ∗ owns (c : Thread nD τ) arg7 fullShare (k0_pay12 (F := F) x0 x1 xs0) ∗ owns (c : Thread nD τ) arg8 fullShare (k0_pay13 (F := F) x0 xs1) ∗ owns (c : Thread nD τ) arg9 fullShare (k0_pay14 (F := F) x1 xs2)) -∗ K ⟨⟩))
      ⊢ wp frame (wpE (defs₀ (F := F)) 𝒱₀ c none) E (cc0__pass_a_body i arg1 harg1 arg2 harg2 arg3 harg3 arg4 harg4 arg5 harg5 arg6 harg6 arg7 harg7 arg8 harg8 arg9 harg9) K := by
  simp only [cc0__pass_a_body_eq_skeleton]; unfold cc0__pass_a_body_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1; obtain rfl := harg9.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    (try unfold body_mid.sl.r); (try unfold body_mid.sl.r_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  isplitl [H4]
  · iexists _; isplitr; · ipureintro; exact harg5.read_unread _
    iexact H4
  isplitl [H5]
  · iexists _; isplitr; · ipureintro; exact harg6.read_unread _
    iexact H5
  isplitl [HS0]
  · iexists _; isplitr
    swap; · iexact HS0
    ipureintro
    (try unfold body_mid.sl.r); (try unfold body_mid.sl.r_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  isplitl [HS1]
  · iexists _; isplitr
    swap; · iexact HS1
    ipureintro
    (try unfold body_mid.sl.r); (try unfold body_mid.sl.r_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  iexists _; isplitr
  swap; · iexact HS2
  ipureintro
  (try unfold body_mid.sl.r); (try unfold body_mid.sl.r_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)

set_option maxHeartbeats 1000000 in
/-- Last point: the scratch takes the point's counts, and the two per-query outputs are computed from the finished counts. -/
theorem body_last (c : Dev nD) (i : grid0.Coords) (arg1 : Memref sig .tc .vmem S8192x100 .i8) (harg1 : arg1.IsWhole) (arg2 : Memref sig .tc .vmem S8192x100 .i8) (harg2 : arg2.IsWhole) (arg3 : Memref sig .tc .vmem S20x64x128 .f32) (harg3 : arg3.IsWhole) (arg4 : Memref sig .tc .vmem S1x64x128 .f32) (harg4 : arg4.IsWhole) (arg5 : Memref sig .tc .vmem S128x1 .i32) (harg5 : arg5.IsWhole) (arg6 : Memref sig .tc .vmem S128x1 .f32) (harg6 : arg6.IsWhole) (arg7 : Memref sig .tc .vmem S100x100 .i32) (harg7 : arg7.IsWhole) (arg8 : Memref sig .tc .vmem S100x8 .i32) (harg8 : arg8.IsWhole) (arg9 : Memref sig .tc .vmem S8x100 .i32) (harg9 : arg9.IsWhole) (hc0 : ¬isFirst i) (hc1 : isLast i)
    (x0 x1 : Vec F S8192x100 .i8) (x2 : Vec F S20x64x128 .f32) (xs0 : Vec F S100x100 .i32) (xs1 : Vec F S100x8 .i32) (xs2 : Vec F S8x100 .i32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
        ∗ (iprop(owns (c : Thread nD τ) arg1 fullShare x0 ∗ owns (c : Thread nD τ) arg2 fullShare x1 ∗ owns (c : Thread nD τ) arg3 fullShare x2 ∗ owns (c : Thread nD τ) arg4 fullShare (k0_pay1 (F := F) (k0_pay15 x2) (k0_pay16 x2)) ∗ owns (c : Thread nD τ) arg5 fullShare (k0_pay4 (F := F) (k0_pay12 (F := F) x0 x1 xs0) (colOf (F := F) (k0_pay13 (F := F) x0 xs1)) (rowOf (F := F) (k0_pay14 (F := F) x1 xs2))) ∗ owns (c : Thread nD τ) arg6 fullShare (k0_pay5 (F := F) (k0_pay12 (F := F) x0 x1 xs0) (colOf (F := F) (k0_pay13 (F := F) x0 xs1)) (rowOf (F := F) (k0_pay14 (F := F) x1 xs2))) ∗ owns (c : Thread nD τ) arg7 fullShare (k0_pay12 (F := F) x0 x1 xs0) ∗ owns (c : Thread nD τ) arg8 fullShare (k0_pay13 (F := F) x0 xs1) ∗ owns (c : Thread nD τ) arg9 fullShare (k0_pay14 (F := F) x1 xs2)) -∗ K ⟨⟩))
      ⊢ wp frame (wpE (defs₀ (F := F)) 𝒱₀ c none) E (cc0__pass_a_body i arg1 harg1 arg2 harg2 arg3 harg3 arg4 harg4 arg5 harg5 arg6 harg6 arg7 harg7 arg8 harg8 arg9 harg9) K := by
  simp only [cc0__pass_a_body_eq_skeleton]; unfold cc0__pass_a_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg7.eq_unread hfs0; obtain rfl := harg8.eq_unread hfs1; obtain rfl := harg9.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    (try unfold body_last.sl.r); (try unfold body_last.sl.r_1); (try unfold body_last.sl.v39); (try unfold body_last.sl.v41); (try unfold body_last.sl.v42); (try unfold body_last.sl.HS0_1); (try unfold body_last.sl.HS1_1); (try unfold body_last.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  isplitl [H4]
  · iexists _; isplitr
    swap; · iexact H4
    ipureintro
    (try unfold body_last.sl.r); (try unfold body_last.sl.r_1); (try unfold body_last.sl.v39); (try unfold body_last.sl.v41); (try unfold body_last.sl.v42); (try unfold body_last.sl.HS0_1); (try unfold body_last.sl.HS1_1); (try unfold body_last.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr3 (k0_pay4 (F := F)) ?_ ?_ ?_ | refine congr2 (k0_pay1 (F := F)) ?_ ?_ | refine congrArg (k0_pay15 (F := F)) ?_ | refine congrArg (k0_pay16 (F := F)) ?_)
  isplitl [H5]
  · iexists _; isplitr
    swap; · iexact H5
    ipureintro
    (try unfold body_last.sl.r); (try unfold body_last.sl.r_1); (try unfold body_last.sl.v39); (try unfold body_last.sl.v41); (try unfold body_last.sl.v42); (try unfold body_last.sl.HS0_1); (try unfold body_last.sl.HS1_1); (try unfold body_last.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr3 (k0_pay5 (F := F)) ?_ ?_ ?_ | refine congr2 (k0_pay1 (F := F)) ?_ ?_ | refine congrArg (k0_pay15 (F := F)) ?_ | refine congrArg (k0_pay16 (F := F)) ?_)
  isplitl [HS0]
  · iexists _; isplitr
    swap; · iexact HS0
    ipureintro
    (try unfold body_last.sl.r); (try unfold body_last.sl.r_1); (try unfold body_last.sl.v39); (try unfold body_last.sl.v41); (try unfold body_last.sl.v42); (try unfold body_last.sl.HS0_1); (try unfold body_last.sl.HS1_1); (try unfold body_last.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  isplitl [HS1]
  · iexists _; isplitr
    swap; · iexact HS1
    ipureintro
    (try unfold body_last.sl.r); (try unfold body_last.sl.r_1); (try unfold body_last.sl.v39); (try unfold body_last.sl.v41); (try unfold body_last.sl.v42); (try unfold body_last.sl.HS0_1); (try unfold body_last.sl.HS1_1); (try unfold body_last.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)
  iexists _; isplitr
  swap; · iexact HS2
  ipureintro
  (try unfold body_last.sl.r); (try unfold body_last.sl.r_1); (try unfold body_last.sl.v39); (try unfold body_last.sl.v41); (try unfold body_last.sl.v42); (try unfold body_last.sl.HS0_1); (try unfold body_last.sl.HS1_1); (try unfold body_last.sl.HS2_1); refine (View.read_writes_full _ _ _ _ _).trans ?_; repeat' (first | exact (View.readAt_full _ _ _).trans (Memref.IsWhole.read_unread _ _) | (refine (View.readCov_full _ _ _ _ _).trans ?_; first | with_reducible rfl | skip) | (refine (readCov_window _ _ _ _ _).trans ?_; refine congrArg (colOf (F := F)) ?_) | (refine (readCov_window _ _ _ _ _).trans ?_; refine congrArg (rowOf (F := F)) ?_) | refine congr3 (k0_pay12 (F := F)) ?_ ?_ ?_ | refine congr2 (k0_pay13 (F := F)) ?_ ?_ | refine congr2 (k0_pay14 (F := F)) ?_ ?_ | refine congr2 (k0_pay1 (F := F)) ?_ ?_ | refine congrArg (k0_pay15 (F := F)) ?_ | refine congrArg (k0_pay16 (F := F)) ?_)

end Cert.KernelIdeal.PassA

end
-- ==== Proof.ARegion.lean ====
module

public import proofs.«01_k».proof.Proof.ABody
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Exec
public import Idealize.ShloMosaic.Lib.Pipeline.Kit

/-! The first region's proof data: what its windows and its scratch hold at every grid point, and that the body meets them. -/

@[expose] public section

noncomputable section

namespace Cert.KernelIdeal.PassA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (V : (c : Dev nD) → (b : Ref sig .tc) → Buf (Elt F) ((c : Thread nD τ).loc b)) (D : Dev nD → CellTallies nD τ sig Ix)

/-- What the first region hands its body and takes back on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- It holds at the first point only — by arithmetic of the point. -/
theorem first_iff : ∀ t : Fin cfg0.N, isFirst (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val % 32 = 0)

/-- It holds at the last point only — by arithmetic of the point. -/
theorem last_iff : ∀ t : Fin cfg0.N, isLast (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [isLast, k0_cond2, e0]
    word_cmp
   : ∀ t : Fin grid0.N, isLast (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, isFirst (grid0.coords t) → ¬isLast (grid0.coords t) → cfg0.idle 4 (grid0.coords t) = true := by decide +kernel
/-- At the points of case A the pipeline does not write output 4's block back. -/
theorem noFlush0_4_A : ∀ t : Fin cfg0.N, isFirst (grid0.coords t) → ¬isLast (grid0.coords t) → (cfg0.win 4).flush t = false := by decide +kernel
/-- At the points of case B the printed configuration (`Cfg.idle`) calls output 4 idle: the case stores nothing into it. -/
theorem idleAt0_4_B : ∀ t : Fin cfg0.N, ¬isFirst (grid0.coords t) → ¬isLast (grid0.coords t) → cfg0.idle 4 (grid0.coords t) = true := by decide +kernel
/-- At the points of case B the pipeline does not write output 4's block back. -/
theorem noFlush0_4_B : ∀ t : Fin cfg0.N, ¬isFirst (grid0.coords t) → ¬isLast (grid0.coords t) → (cfg0.win 4).flush t = false := by decide +kernel
/-- At the points of case C the printed configuration (`Cfg.idle`) calls output 4 live: the case stores into it. -/
theorem liveAt0_4_C : ∀ t : Fin cfg0.N, ¬isFirst (grid0.coords t) → isLast (grid0.coords t) → cfg0.idle 4 (grid0.coords t) = false := by decide +kernel
/-- At the points of case A the printed configuration (`Cfg.idle`) calls output 5 idle: the case stores nothing into it. -/
theorem idleAt0_5_A : ∀ t : Fin cfg0.N, isFirst (grid0.coords t) → ¬isLast (grid0.coords t) → cfg0.idle 5 (grid0.coords t) = true := by decide +kernel
/-- At the points of case A the pipeline does not write output 5's block back. -/
theorem noFlush0_5_A : ∀ t : Fin cfg0.N, isFirst (grid0.coords t) → ¬isLast (grid0.coords t) → (cfg0.win 5).flush t = false := by decide +kernel
/-- At the points of case B the printed configuration (`Cfg.idle`) calls output 5 idle: the case stores nothing into it. -/
theorem idleAt0_5_B : ∀ t : Fin cfg0.N, ¬isFirst (grid0.coords t) → ¬isLast (grid0.coords t) → cfg0.idle 5 (grid0.coords t) = true := by decide +kernel
/-- At the points of case B the pipeline does not write output 5's block back. -/
theorem noFlush0_5_B : ∀ t : Fin cfg0.N, ¬isFirst (grid0.coords t) → ¬isLast (grid0.coords t) → (cfg0.win 5).flush t = false := by decide +kernel
/-- At the points of case C the printed configuration (`Cfg.idle`) calls output 5 live: the case stores into it. -/
theorem liveAt0_5_C : ∀ t : Fin cfg0.N, ¬isFirst (grid0.coords t) → isLast (grid0.coords t) → cfg0.idle 5 (grid0.coords t) = false := by decide +kernel

/-- Each window's current staging memref at point `t`, spelled as the pipeline passes it (`bodyAt0`), and its wholeness. -/
abbrev ms0_0 (t : Fin cfg0.N) : Memref sig .tc .vmem S8192x100 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x100 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S100x100 .i32 := Memref.whole cc0_scratch0
abbrev scM0_1 : Memref sig .tc .vmem S100x8 .i32 := Memref.whole cc0_scratch1
abbrev scM0_2 : Memref sig .tc .vmem S8x100 .i32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (ΦK (F := F) (Ix := Ix) (U := U) (Lvl := Lvl) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg0_0), ((c : Thread nD τ).loc cc1_stg0_0) ↦{fullShare} f)) ∗ (∃ r, prngReg c r)) := by
  unfold ΦK; rw [scopedRest0_eq]; simp only [scM0_0, scM0_1, scM0_2, owns_whole]; try rfl

/-! ## What the scratch holds between points -/

/-- The three scratch arrays (the pairwise overlaps, the areas of the first argument's masks, those of the second's) after the first `n` points. -/
def acc (c : Dev nD) : ℕ → Vec F S100x100 .i32 × Vec F S100x8 .i32 × Vec F S8x100 .i32
  | 0 => (k0_pay6, k0_pay7, k0_pay8)
  | n + 1 => if h : n < cfg0.N then (k0_pay12 (F := F) (iblk V c 0 ⟨n, h⟩) (iblk V c 1 ⟨n, h⟩) (acc c n).1, k0_pay13 (F := F) (iblk V c 0 ⟨n, h⟩) (acc c n).2.1, k0_pay14 (F := F) (iblk V c 1 ⟨n, h⟩) (acc c n).2.2)
    else acc c n

/-- The scratch after a point, from what it held before. -/
theorem acc_succ (c : Dev nD) (t : Fin cfg0.N) : acc V c (t.val + 1) = (k0_pay12 (F := F) (iblk V c 0 t) (iblk V c 1 t) (acc V c t.val).1, k0_pay13 (F := F) (iblk V c 0 t) (acc V c t.val).2.1, k0_pay14 (F := F) (iblk V c 1 t) (acc V c t.val).2.2) := by
  rw [acc, dif_pos t.isLt]

/-- The block of the mask that a point leaves: whether some class but the first beats the first. -/
def maskAt (c : Dev nD) (t : Fin cfg0.N) : Vec F S1x64x128 .f32 := k0_pay1 (F := F) (k0_pay15 (iblk V c 2 t)) (k0_pay16 (iblk V c 2 t))
/-- The matched queries, from the scratch after `n` points. -/
def idxAt (c : Dev nD) (n : ℕ) : Vec F S128x1 .i32 := k0_pay4 (F := F) (acc V c n).1 (colOf (F := F) (acc V c n).2.1) (rowOf (F := F) (acc V c n).2.2)
/-- The queries' scales, from the scratch after `n` points. -/
def scaleAt (c : Dev nD) (n : ℕ) : Vec F S128x1 .f32 := k0_pay5 (F := F) (acc V c n).1 (colOf (F := F) (acc V c n).2.1) (rowOf (F := F) (acc V c n).2.2)

/-- The region's invariant before position `n`: before the first point every scratch at anything; afterwards the three scratch arrays
    at `acc`, the others at anything, and the generator register at some state. -/
def PhiS (c : Dev nD) : (n : ℕ) → n ≤ cfg0.N → sProp 𝕄
  | 0, _ => ΦK (F := F) (Ix := Ix) (U := U) (Lvl := Lvl) c
  | n + 1, hn => iprop(iprop(owns (c : Thread nD τ) scM0_0 fullShare ((acc V c (n + 1)).1) ∗ owns (c : Thread nD τ) scM0_1 fullShare ((acc V c (n + 1)).2.1) ∗ owns (c : Thread nD τ) scM0_2 fullShare ((acc V c (n + 1)).2.2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg0_0), ((c : Thread nD τ).loc cc1_stg0_0) ↦{fullShare} f)) ∗ (∃ r, prngReg c r))

theorem PhiS_zero (c : Dev nD) (n : ℕ) (h : n ≤ cfg0.N) (hz : n = 0) : PhiS V c n h = ΦK (F := F) (Ix := Ix) (U := U) (Lvl := Lvl) c := by
  subst hz; rfl

/-- After point `n` (before point `n + 1`): the carried scratch at that point's contents. -/
theorem PhiS_succ (c : Dev nD) (n : ℕ) (hn : n < cfg0.N) :
    PhiS (Ix := Ix) (U := U) (Lvl := Lvl) V c (n + 1) hn = iprop(iprop(owns (c : Thread nD τ) scM0_0 fullShare ((acc V c (n + 1)).1) ∗ owns (c : Thread nD τ) scM0_1 fullShare ((acc V c (n + 1)).2.1) ∗ owns (c : Thread nD τ) scM0_2 fullShare ((acc V c (n + 1)).2.2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg0_0), ((c : Thread nD τ).loc cc1_stg0_0) ↦{fullShare} f)) ∗ (∃ r, prngReg c r)) := rfl

/-- Before a point that is not the first: the carried scratch at what the point before left. -/
theorem PhiS_pos (c : Dev nD) (n : ℕ) (h : n ≤ cfg0.N) (hz : n ≠ 0) :
    PhiS (Ix := Ix) (U := U) (Lvl := Lvl) V c n h = iprop(iprop(owns (c : Thread nD τ) scM0_0 fullShare ((acc V c n).1) ∗ owns (c : Thread nD τ) scM0_1 fullShare ((acc V c n).2.1) ∗ owns (c : Thread nD τ) scM0_2 fullShare ((acc V c n).2.2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg0_0), ((c : Thread nD τ).loc cc1_stg0_0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `maskAt`, `idxAt`, `scaleAt`; the invariant the class's
    (`PhiS`: the class's `ΦA` before the first point, then the scoped rest with the carried scratch at `acc`);
    nothing owed; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => maskAt V c t
    | ⟨4, _⟩ => idxAt V c (t.val + 1)
    | ⟨5, _⟩ => scaleAt V c (t.val + 1)
  Φ t := PhiS V c t.val (Nat.le_of_lt_succ t.isLt)
  q _ := fullShare
  owed _ := D c

variable (𝒱₀ : Variants) (ι : Ix)

local notation "𝕕" => dat (Ix := Ix) (U := U) (Lvl := Lvl) V D

/-- The proof data's arrays are the region-entry contents `V`: the proof data's definition projected (`dsimp`). -/
theorem A_eq (c : Dev nD) (w : Fin cfg0.W) : (𝕕 c).A w = V c (Pipeline.arrRef spec0 w) := by
  dsimp only [dat]

/-- The invariant at a point's start (the proof data at `t.castSucc`), restated at `t.val`. -/
theorem PhiS_castSucc (c : Dev nD) (t : Fin cfg0.N) :
    (𝕕 c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = iblk V c 2 t := by dsimp only [dat]
theorem after0_3 (c : Dev nD) (t : Fin cfg0.N) : (𝕕 c).after 3 t = maskAt V c t := by dsimp only [dat]
theorem after0_4 (c : Dev nD) (t : Fin cfg0.N) : (𝕕 c).after 4 t = idxAt V c (t.val + 1) := by dsimp only [dat]
theorem after0_5 (c : Dev nD) (t : Fin cfg0.N) : (𝕕 c).after 5 t = scaleAt V c (t.val + 1) := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq V D c 0) (after0_0 V D c) t d
theorem before0_1 (c : Dev nD) (t : Fin cfg0.N) (d) : (𝕕 c).before 1 t d = iblk V c 1 t :=
  before0_1_of V (𝕕 c) (A_eq V D c 1) (after0_1 V D c) t d
theorem before0_2 (c : Dev nD) (t : Fin cfg0.N) (d) : (𝕕 c).before 2 t d = iblk V c 2 t :=
  before0_2_of V (𝕕 c) (A_eq V D c 2) (after0_2 V D c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d)))

/-- and what it returns. -/
def bodyPost (c : Dev nD) (t : Fin cfg0.N) : sProp 𝕄 :=
  iprop((𝕕 c).Φ t.succ ∗ (𝕕 c).owesAt ι t.succ
    ∗ (𝕕 c).leavesExact 0 t
    ∗ (𝕕 c).leavesExact 1 t
    ∗ (𝕕 c).leavesExact 2 t
    ∗ (𝕕 c).leavesExact 3 t
    ∗ (𝕕 c).leavesExact 4 t
    ∗ (𝕕 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes `D c` throughout. -/
theorem sound_body (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost bodyAt0
  simp only [before0_0, before0_1, before0_2]
  rw [show (𝕕 c).owesAt ι t.succ = (𝕕 c).owesAt ι t.castSucc from rfl]
  rw [show (𝕕 c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (𝕕 c).leavesExact 0 t = owns (c : Thread nD τ) (ms0_0 t) fullShare ((𝕕 c).after 0 t) from by
      unfold Dat.leavesExact; rw [liveAt0_0 t], after0_0]
      rw [show (𝕕 c).leavesExact 1 t = owns (c : Thread nD τ) (ms0_1 t) fullShare ((𝕕 c).after 1 t) from by
      unfold Dat.leavesExact; rw [liveAt0_1 t], after0_1]
      rw [show (𝕕 c).leavesExact 2 t = owns (c : Thread nD τ) (ms0_2 t) fullShare ((𝕕 c).after 2 t) from by
      unfold Dat.leavesExact; rw [liveAt0_2 t], after0_2]
      rw [show (𝕕 c).leavesExact 3 t = owns (c : Thread nD τ) (ms0_3 t) fullShare ((𝕕 c).after 3 t) from by
      unfold Dat.leavesExact; rw [liveAt0_3 t], after0_3]
      rw [Dat.leavesExact_idle (𝕕 c) 4 t (idleAt0_4_A t ((first_iff t).mpr h0) (fun h => h1 ((last_iff t).mp h))) (noFlush0_4_A t ((first_iff t).mpr h0) (fun h => h1 ((last_iff t).mp h)))]
      rw [Dat.leavesExact_idle (𝕕 c) 5 t (idleAt0_5_A t ((first_iff t).mpr h0) (fun h => h1 ((last_iff t).mp h))) (noFlush0_5_A t ((first_iff t).mpr h0) (fun h => h1 ((last_iff t).mp h)))]
      by_cases hz : t.val = 0
      · rw [PhiS_castSucc V D c t, PhiS_zero V c _ _ hz, PhiA0_eq]
        rw [show acc V c (t.val + 1) = (k0_pay12 (F := F) (iblk V c 0 t) (iblk V c 1 t) k0_pay6, k0_pay13 (F := F) (iblk V c 0 t) k0_pay7, k0_pay14 (F := F) (iblk V c 1 t) k0_pay8) from by
          rw [acc_succ V c t, hz]; rfl]
        unfold maskAt; dsimp only
        iintro ⟨⟨⟨HS0, HS1, HS2, HR3, HR4, HR5, HR6, HR7, HR8, HR9, HR10, HR11⟩, Hg⟩, Ho, ⟨%d0, H0⟩, ⟨%d1, H1⟩, ⟨%d2, H2⟩, ⟨%d3, H3⟩, ⟨%d4, H4⟩, ⟨%d5, H5⟩⟩
        iapply (body_first 𝒱₀ c (grid0.coords t) _ _ _ _ _ _ _ _ _ _ _ _ _ _ _ _ _ _ ((first_iff t).mpr h0) (fun h => h1 ((last_iff t).mp h)) (iblk V c 0 t) (iblk V c 1 t) (iblk V c 2 t) _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 HR3 HR4 HR5 HR6 HR7 HR8 HR9 HR10 HR11 Hg]
        · isplitl [HS0 HS1 HS2 HR3 HR4 HR5 HR6 HR7 HR8 HR9 HR10 HR11]
          · isplitl [HS0]
            · iexact HS0
            isplitl [HS1]
            · iexact HS1
            isplitl [HS2]
            · iexact HS2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            iexact HR11
          iexact Hg
        isplitl [Ho]; · iexact Ho
        isplitl [H0]; · iexact H0
        isplitl [H1]; · iexact H1
        isplitl [H2]; · iexact H2
        isplitl [H3]
        · iexact H3
        isplitl [H4]; · iexists _; iexact H4
        iexists _; iexact H5
      · exfalso; have hN : t.val < 32 := lt_of_lt_of_eq t.isLt (show cfg0.N = 32 from N_0); omega
  · by_cases h1 : t.val % 32 = 31
    · rw [show (𝕕 c).leavesExact 0 t = owns (c : Thread nD τ) (ms0_0 t) fullShare ((𝕕 c).after 0 t) from by
      unfold Dat.leavesExact; rw [liveAt0_0 t], after0_0]
      rw [show (𝕕 c).leavesExact 1 t = owns (c : Thread nD τ) (ms0_1 t) fullShare ((𝕕 c).after 1 t) from by
      unfold Dat.leavesExact; rw [liveAt0_1 t], after0_1]
      rw [show (𝕕 c).leavesExact 2 t = owns (c : Thread nD τ) (ms0_2 t) fullShare ((𝕕 c).after 2 t) from by
      unfold Dat.leavesExact; rw [liveAt0_2 t], after0_2]
      rw [show (𝕕 c).leavesExact 3 t = owns (c : Thread nD τ) (ms0_3 t) fullShare ((𝕕 c).after 3 t) from by
      unfold Dat.leavesExact; rw [liveAt0_3 t], after0_3]
      rw [show (𝕕 c).leavesExact 4 t = owns (c : Thread nD τ) (ms0_4 t) fullShare ((𝕕 c).after 4 t) from by
      unfold Dat.leavesExact; rw [liveAt0_4_C t (fun h => h0 ((first_iff t).mp h)) ((last_iff t).mpr h1)], after0_4]
      rw [show (𝕕 c).leavesExact 5 t = owns (c : Thread nD τ) (ms0_5 t) fullShare ((𝕕 c).after 5 t) from by
      unfold Dat.leavesExact; rw [liveAt0_5_C t (fun h => h0 ((first_iff t).mp h)) ((last_iff t).mpr h1)], after0_5]
      by_cases hz : t.val = 0
      · exfalso; have hN : t.val < 32 := lt_of_lt_of_eq t.isLt (show cfg0.N = 32 from N_0); omega
      · rw [PhiS_castSucc V D c t, PhiS_pos V c _ _ hz]
        unfold maskAt idxAt scaleAt; rw [acc_succ V c t]; dsimp only
        iintro ⟨⟨⟨HS0, HS1, HS2, HR3, HR4, HR5, HR6, HR7, HR8, HR9, HR10, HR11⟩, Hg⟩, Ho, ⟨%d0, H0⟩, ⟨%d1, H1⟩, ⟨%d2, H2⟩, ⟨%d3, H3⟩, ⟨%d4, H4⟩, ⟨%d5, H5⟩⟩
        iapply (body_last 𝒱₀ c (grid0.coords t) _ _ _ _ _ _ _ _ _ _ _ _ _ _ _ _ _ _ (fun h => h0 ((first_iff t).mp h)) ((last_iff t).mpr h1) (iblk V c 0 t) (iblk V c 1 t) (iblk V c 2 t) _ _ _ Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 HR3 HR4 HR5 HR6 HR7 HR8 HR9 HR10 HR11 Hg]
        · isplitl [HS0 HS1 HS2 HR3 HR4 HR5 HR6 HR7 HR8 HR9 HR10 HR11]
          · isplitl [HS0]
            · iexact HS0
            isplitl [HS1]
            · iexact HS1
            isplitl [HS2]
            · iexact HS2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            iexact HR11
          iexact Hg
        isplitl [Ho]; · iexact Ho
        isplitl [H0]; · iexact H0
        isplitl [H1]; · iexact H1
        isplitl [H2]; · iexact H2
        isplitl [H3]
        · iexact H3
        isplitl [H4]
        · iexact H4
        iexact H5
    · rw [show (𝕕 c).leavesExact 0 t = owns (c : Thread nD τ) (ms0_0 t) fullShare ((𝕕 c).after 0 t) from by
      unfold Dat.leavesExact; rw [liveAt0_0 t], after0_0]
      rw [show (𝕕 c).leavesExact 1 t = owns (c : Thread nD τ) (ms0_1 t) fullShare ((𝕕 c).after 1 t) from by
      unfold Dat.leavesExact; rw [liveAt0_1 t], after0_1]
      rw [show (𝕕 c).leavesExact 2 t = owns (c : Thread nD τ) (ms0_2 t) fullShare ((𝕕 c).after 2 t) from by
      unfold Dat.leavesExact; rw [liveAt0_2 t], after0_2]
      rw [show (𝕕 c).leavesExact 3 t = owns (c : Thread nD τ) (ms0_3 t) fullShare ((𝕕 c).after 3 t) from by
      unfold Dat.leavesExact; rw [liveAt0_3 t], after0_3]
      rw [Dat.leavesExact_idle (𝕕 c) 4 t (idleAt0_4_B t (fun h => h0 ((first_iff t).mp h)) (fun h => h1 ((last_iff t).mp h))) (noFlush0_4_B t (fun h => h0 ((first_iff t).mp h)) (fun h => h1 ((last_iff t).mp h)))]
      rw [Dat.leavesExact_idle (𝕕 c) 5 t (idleAt0_5_B t (fun h => h0 ((first_iff t).mp h)) (fun h => h1 ((last_iff t).mp h))) (noFlush0_5_B t (fun h => h0 ((first_iff t).mp h)) (fun h => h1 ((last_iff t).mp h)))]
      by_cases hz : t.val = 0
      · exfalso; have hN : t.val < 32 := lt_of_lt_of_eq t.isLt (show cfg0.N = 32 from N_0); omega
      · rw [PhiS_castSucc V D c t, PhiS_pos V c _ _ hz]
        rw [acc_succ V c t]
        unfold maskAt; dsimp only
        iintro ⟨⟨⟨HS0, HS1, HS2, HR3, HR4, HR5, HR6, HR7, HR8, HR9, HR10, HR11⟩, Hg⟩, Ho, ⟨%d0, H0⟩, ⟨%d1, H1⟩, ⟨%d2, H2⟩, ⟨%d3, H3⟩, ⟨%d4, H4⟩, ⟨%d5, H5⟩⟩
        iapply (body_mid 𝒱₀ c (grid0.coords t) _ _ _ _ _ _ _ _ _ _ _ _ _ _ _ _ _ _ (fun h => h0 ((first_iff t).mp h)) (fun h => h1 ((last_iff t).mp h)) (iblk V c 0 t) (iblk V c 1 t) (iblk V c 2 t) _ _ _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 HR3 HR4 HR5 HR6 HR7 HR8 HR9 HR10 HR11 Hg]
        · isplitl [HS0 HS1 HS2 HR3 HR4 HR5 HR6 HR7 HR8 HR9 HR10 HR11]
          · isplitl [HS0]
            · iexact HS0
            isplitl [HS1]
            · iexact HS1
            isplitl [HS2]
            · iexact HS2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            iexact HR11
          iexact Hg
        isplitl [Ho]; · iexact Ho
        isplitl [H0]; · iexact H0
        isplitl [H1]; · iexact H1
        isplitl [H2]; · iexact H2
        isplitl [H3]
        · iexact H3
        isplitl [H4]; · iexists _; iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) V D 𝒱₀ ι c t) rfl .rfl fun _ => .rfl

/-- What the launch hands the region (`ΦA`) is the invariant before the first point. -/
theorem hin (c : Dev nD) : ΦK (F := F) (Ix := Ix) (U := U) (Lvl := Lvl) c ⊢ (𝕕 c).Φ 0 := by
  rw [show (𝕕 c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (𝕕 c).Φ t ⊢ ΦK (F := F) (Ix := Ix) (U := U) (Lvl := Lvl) c := by
  rw [show (𝕕 c).Φ t = PhiS V c t.val (Nat.le_of_lt_succ t.isLt) from rfl, PhiS_pos V c _ _ ht, PhiA0_eq]
  iintro ⟨⟨HS0, HS1, HS2, HR3, HR4, HR5, HR6, HR7, HR8, HR9, HR10, HR11⟩, Hg⟩
  isplitl [HS0 HS1 HS2 HR3 HR4 HR5 HR6 HR7 HR8 HR9 HR10 HR11]
  · isplitl [HS0]
    · iexists _; iexact HS0
    isplitl [HS1]
    · iexists _; iexact HS1
    isplitl [HS2]
    · iexists _; iexact HS2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    iexact HR11
  iexact Hg

/-- The same after the last point. -/
theorem hout (c : Dev nD) : (𝕕 c).Φ (Fin.last cfg0.N) ⊢ ΦK (F := F) (Ix := Ix) (U := U) (Lvl := Lvl) c :=
  Phi_out V D c _ (by rw [Fin.val_last]; have : cfg0.N = 32 := N_0; omega)

end Cert.KernelIdeal.PassA

end
-- ==== Proof.BBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Exec
public import Idealize.ShloMosaic.Lib.Pipeline.Kit

/-! The second kernel's body on any staging buffers: it leaves in its output block the sum of the two occupancy blocks, times the mask
    block times the one word of the scale table that belongs to the point's query. It never looks at the table of matches. -/

@[expose] public section

noncomputable section

namespace Cert.KernelIdeal.PassB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- The word of the scale table that belongs to grid point `i`. -/
def wordAt (x : Vec F S128 .f32) (i : grid1.Coords) : Elt F .f32 :=
  x ((Rect.unit (s := S128) (k1_off1 i) S1.size (k1_off1_inb i)).emb (Shape.Idx.first (numel1_S1.symm ▸ Nat.one_pos)))

/-- A function of four arguments takes equal arguments to equal results. -/
theorem congr4 {α β γ δ ε : Type} (f : α → β → γ → δ → ε) {a a' : α} {b b' : β} {c c' : γ} {d d' : δ} (ha : a = a') (hb : b = b') (hc : c = c') (hd : d = d') : f a b c d = f a' b' c' d' := by rw [ha, hb, hc, hd]

variable (𝒱₀ : Variants)

set_option maxHeartbeats 1000000 in
/-- Any point: the inputs are left as they were, the output block takes the weighted sum. -/
theorem body (c : Dev nD) (i : grid1.Coords) (arg2 : Memref sig .tc .smem S128 .i32) (harg2 : arg2.IsWhole) (arg3 : Memref sig .tc .smem S128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole)
    (x0 : Vec F S128 .f32) (x1 x2 x3 : Vec F S1x512x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k1_pay1 (F := F) (wordAt x0 i) x1 x2 x3)) -∗ K ⟨⟩))
      ⊢ wp frame (wpE (defs₀ (F := F)) 𝒱₀ c none) E (cc1__pass_b_body i arg2 harg2 arg3 harg3 arg4 harg4 arg5 harg5 arg6 harg6 arg7 harg7) K := by
  simp only [cc1__pass_b_body_eq_skeleton]; unfold cc1__pass_b_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  refine (View.read_writes_full _ _ _ _ _).trans ?_
  refine congr4 (k1_pay1 (F := F)) ?_ ((View.readAt_full _ _ _).trans (Memref.IsWhole.read_unread _ _)) ((View.readAt_full _ _ _).trans (Memref.IsWhole.read_unread _ _)) ((View.readAt_full _ _ _).trans (Memref.IsWhole.read_unread _ _))
  unfold body.sl.r wordAt
  exact congrFun hf0 _

end Cert.KernelIdeal.PassB

end
-- ==== Proof.BRegion.lean ====
module

public import proofs.«01_k».proof.Proof.Gen.KernelIdeal.Launch
public import proofs.«01_k».proof.Proof.BBody
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Exec
public import Idealize.ShloMosaic.Lib.Pipeline.Kit

/-! The second kernel's proof data: what each grid point leaves in the output, with the table of matches (which only places the blocks of
    the second argument) carried through untouched; and the body obligation for it. -/

@[expose] public section

noncomputable section

namespace Cert.KernelIdeal.PassB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (a : (pcfg1 (F := F)).Adm)
variable (V : (c : Dev nD) → (b : Ref sig .tc) → Buf (Elt F) ((c : Thread nD τ).loc b)) (D : Dev nD → CellTallies nD τ sig Ix)

/-- What the region keeps besides its windows: the buffers no window stages, the generator register, and the table of matches at `a`. -/
def ΦK (c : Dev nD) : sProp 𝕄 :=
  iprop(Pipeline.scopedRest (Ix := Ix) (Name := ℕ) (U := U) (Lvl := Lvl) (Val := Elt F) spec1 c ∗ (∃ r, prngReg c r)
    ∗ Pipeline.prefHeld (Ix := Ix) (Name := ℕ) (U := U) (Lvl := Lvl) pre1 c (fun _ => fullShare) a.1)

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- Input 0's current staging buffer holds its block at every point, for any proof data that starts from `V` and leaves it in place. -/
theorem before1_0_of {c : Dev nD} (dat : Dat τ (Elt F) Ix ℕ U Lvl (cfg1 a) c) (hA : dat.A 0 = V c (Pipeline.arrRef spec1 0))
    (hafter : ∀ t, dat.after 0 t = iblk a V c 0 t) (t : Fin (cfg1 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its block at every point, for any proof data that starts from `V` and leaves it in place. -/
theorem before1_1_of {c : Dev nD} (dat : Dat τ (Elt F) Ix ℕ U Lvl (cfg1 a) c) (hA : dat.A 1 = V c (Pipeline.arrRef spec1 1))
    (hafter : ∀ t, dat.after 1 t = iblk a V c 1 t) (t : Fin (cfg1 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its block at every point, for any proof data that starts from `V` and leaves it in place. -/
theorem before1_2_of {c : Dev nD} (dat : Dat τ (Elt F) Ix ℕ U Lvl (cfg1 a) c) (hA : dat.A 2 = V c (Pipeline.arrRef spec1 2))
    (hafter : ∀ t, dat.after 2 t = iblk a V c 2 t) (t : Fin (cfg1 a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its block at every point, for any proof data that starts from `V` and leaves it in place. -/
theorem before1_3_of {c : Dev nD} (dat : Dat τ (Elt F) Ix ℕ U Lvl (cfg1 a) c) (hA : dat.A 3 = V c (Pipeline.arrRef spec1 3))
    (hafter : ∀ t, dat.after 3 t = iblk a V c 3 t) (t : Fin (cfg1 a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Window 0's staging buffer at point `t`, and that it is a whole buffer. -/
abbrev ms1_0 (t : Fin (cfg1 a).N) : Memref sig .tc .smem S128 .f32 := spec1_0.stage ((cfg1 a).slots t 0)
theorem hs1_0 (t : Fin (cfg1 a).N) : (ms1_0 a t).IsWhole := hstage1_0 (((cfg1 a).slots t 0).cast nbuf1_0)
/-- Window 1's staging buffer at point `t`, and that it is a whole buffer. -/
abbrev ms1_1 (t : Fin (cfg1 a).N) : Memref sig .tc .vmem S1x512x128 .f32 := spec1_1.stage ((cfg1 a).slots t 1)
theorem hs1_1 (t : Fin (cfg1 a).N) : (ms1_1 a t).IsWhole := hstage1_1 (((cfg1 a).slots t 1).cast nbuf1_1)
/-- Window 2's staging buffer at point `t`, and that it is a whole buffer. -/
abbrev ms1_2 (t : Fin (cfg1 a).N) : Memref sig .tc .vmem S1x512x128 .f32 := spec1_2.stage ((cfg1 a).slots t 2)
theorem hs1_2 (t : Fin (cfg1 a).N) : (ms1_2 a t).IsWhole := hstage1_2 (((cfg1 a).slots t 2).cast nbuf1_2)
/-- Window 3's staging buffer at point `t`, and that it is a whole buffer. -/
abbrev ms1_3 (t : Fin (cfg1 a).N) : Memref sig .tc .vmem S1x512x128 .f32 := spec1_3.stage ((cfg1 a).slots t 3)
theorem hs1_3 (t : Fin (cfg1 a).N) : (ms1_3 a t).IsWhole := hstage1_3 (((cfg1 a).slots t 3).cast nbuf1_3)
/-- Window 4's staging buffer at point `t`, and that it is a whole buffer. -/
abbrev ms1_4 (t : Fin (cfg1 a).N) : Memref sig .tc .vmem S1x512x128 .f32 := spec1_4.stage ((cfg1 a).slots t 4)
theorem hs1_4 (t : Fin (cfg1 a).N) : (ms1_4 a t).IsWhole := hstage1_4 (((cfg1 a).slots t 4).cast nbuf1_4)

/-- The body at point `t`. -/
def bodyAtB (t : Fin (cfg1 a).N) : Prog (TpuEff nD τ sig (Elt F) Λ₀ .tc) PUnit :=
  cc1__pass_b_body (grid1.coords t) (Memref.whole main_v17) (Memref.isWhole_whole _) (ms1_0 a t) (hs1_0 a t) (ms1_1 a t) (hs1_1 a t) (ms1_2 a t) (hs1_2 a t) (ms1_3 a t) (hs1_3 a t) (ms1_4 a t) (hs1_4 a t)

/-- What point `t` leaves in the output block. -/
def outAt (c : Dev nD) (t : Fin (cfg1 a).N) : Vec F S1x512x128 .f32 :=
  k1_pay1 (F := F) (wordAt (iblk a V c 0 t) (grid1.coords t)) (iblk a V c 1 t) (iblk a V c 2 t) (iblk a V c 3 t)

/-- The proof data: the arrays as the region finds them, the inputs' blocks left in place, the output's block at `outAt`. -/
def dat (c : Dev nD) : Dat τ (Elt F) Ix ℕ U Lvl (cfg1 a) c where
  A w := V c (Pipeline.arrRef spec1 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => outAt a V c t
  Φ _ := ΦK (Ix := Ix) (U := U) (Lvl := Lvl) a c
  q _ := fullShare
  owed _ := D c

variable (𝒱₀ : Variants) (ι : Ix)

local notation "𝕕" => dat (Ix := Ix) (U := U) (Lvl := Lvl) a V D

/-- The arrays are the region-entry contents. -/
theorem A_eq (c : Dev nD) (w : Fin (cfg1 a).W) : (𝕕 c).A w = V c (Pipeline.arrRef spec1 w) := by
  dsimp only [dat]

/-- What the body leaves in window 0. -/
theorem after1_0 (c : Dev nD) (t : Fin (cfg1 a).N) : (𝕕 c).after 0 t = iblk a V c 0 t := by dsimp only [dat]; rfl
/-- What the body leaves in window 1. -/
theorem after1_1 (c : Dev nD) (t : Fin (cfg1 a).N) : (𝕕 c).after 1 t = iblk a V c 1 t := by dsimp only [dat]; rfl
/-- What the body leaves in window 2. -/
theorem after1_2 (c : Dev nD) (t : Fin (cfg1 a).N) : (𝕕 c).after 2 t = iblk a V c 2 t := by dsimp only [dat]; rfl
/-- What the body leaves in window 3. -/
theorem after1_3 (c : Dev nD) (t : Fin (cfg1 a).N) : (𝕕 c).after 3 t = iblk a V c 3 t := by dsimp only [dat]; rfl
/-- What the body leaves in window 4. -/
theorem after1_4 (c : Dev nD) (t : Fin (cfg1 a).N) : (𝕕 c).after 4 t = outAt a V c t := by dsimp only [dat]; rfl
/-- What the body finds in window 0. -/
theorem before1_0 (c : Dev nD) (t : Fin (cfg1 a).N) (d) : (𝕕 c).before 0 t d = iblk a V c 0 t :=
  before1_0_of a V (𝕕 c) (A_eq a V D c 0) (after1_0 a V D c) t d
/-- What the body finds in window 1. -/
theorem before1_1 (c : Dev nD) (t : Fin (cfg1 a).N) (d) : (𝕕 c).before 1 t d = iblk a V c 1 t :=
  before1_1_of a V (𝕕 c) (A_eq a V D c 1) (after1_1 a V D c) t d
/-- What the body finds in window 2. -/
theorem before1_2 (c : Dev nD) (t : Fin (cfg1 a).N) (d) : (𝕕 c).before 2 t d = iblk a V c 2 t :=
  before1_2_of a V (𝕕 c) (A_eq a V D c 2) (after1_2 a V D c) t d
/-- What the body finds in window 3. -/
theorem before1_3 (c : Dev nD) (t : Fin (cfg1 a).N) (d) : (𝕕 c).before 3 t d = iblk a V c 3 t :=
  before1_3_of a V (𝕕 c) (A_eq a V D c 3) (after1_3 a V D c) t d

/-- What the body is called with at point `t`, window by window, -/
def bodyPre (c : Dev nD) (t : Fin (cfg1 a).N) : sProp 𝕄 :=
  iprop((𝕕 c).Φ t.castSucc ∗ (𝕕 c).owesAt ι t.castSucc
    ∗ (∃ d, owns (c : Thread nD τ) (ms1_0 a t) fullShare ((𝕕 c).before 0 t d))
    ∗ (∃ d, owns (c : Thread nD τ) (ms1_1 a t) fullShare ((𝕕 c).before 1 t d))
    ∗ (∃ d, owns (c : Thread nD τ) (ms1_2 a t) fullShare ((𝕕 c).before 2 t d))
    ∗ (∃ d, owns (c : Thread nD τ) (ms1_3 a t) fullShare ((𝕕 c).before 3 t d))
    ∗ (∃ d, owns (c : Thread nD τ) (ms1_4 a t) fullShare ((𝕕 c).before 4 t d)))

/-- and what it returns. -/
def bodyPost (c : Dev nD) (t : Fin (cfg1 a).N) : sProp 𝕄 :=
  iprop((𝕕 c).Φ t.succ ∗ (𝕕 c).owesAt ι t.succ
    ∗ owns (c : Thread nD τ) (ms1_0 a t) fullShare ((𝕕 c).after 0 t)
    ∗ owns (c : Thread nD τ) (ms1_1 a t) fullShare ((𝕕 c).after 1 t)
    ∗ owns (c : Thread nD τ) (ms1_2 a t) fullShare ((𝕕 c).after 2 t)
    ∗ owns (c : Thread nD τ) (ms1_3 a t) fullShare ((𝕕 c).after 3 t)
    ∗ owns (c : Thread nD τ) (ms1_4 a t) fullShare ((𝕕 c).after 4 t))

/-- The body at any point. -/
theorem sound_body (c : Dev nD) (t : Fin (cfg1 a).N) :
    bodyPre (U := U) (Lvl := Lvl) a V D ι c t ⊢ wp frame (wpE (defs₀ (F := F)) 𝒱₀ c none) Set.univ (bodyAtB a t) (fun _ => bodyPost (U := U) (Lvl := Lvl) a V D ι c t) := by
  unfold bodyPre bodyPost bodyAtB
  simp only [before1_0, before1_1, before1_2, before1_3]
  rw [show (𝕕 c).Φ t.succ = (𝕕 c).Φ t.castSucc from rfl,
    show (𝕕 c).owesAt ι t.succ = (𝕕 c).owesAt ι t.castSucc from rfl,
    after1_0, after1_1, after1_2, after1_3, after1_4]
  unfold outAt
  iintro ⟨HΦ, Ho, ⟨%d0, H0⟩, ⟨%d1, H1⟩, ⟨%d2, H2⟩, ⟨%d3, H3⟩, ⟨%d4, H4⟩⟩
  iapply (body 𝒱₀ c (grid1.coords t) _ _ _ _ _ _ _ _ _ _ _ _ (iblk a V c 0 t) (iblk a V c 1 t) (iblk a V c 2 t) (iblk a V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin (cfg1 a).N) :
    defs₀ (F := F) .tc (cfg1 a).body ((cfg1 a).bodyArgs t ((cfg1 a).slots t)) = bodyAtB a t := by
  unfold defs₀; rw [Defs.onTc_tc]; rfl

/-- The library's body obligation, at every point. -/
theorem body_obligation (c : Dev nD) : BodyObligation (𝕕 c) (defs₀ (F := F)) 𝒱₀ ι Set.univ := fun t => by
  rw [bigSep_W1, bigSep_W1, defs₀_row]
  exact triple_restated (sound_body (U := U) (Lvl := Lvl) a V D 𝒱₀ ι c t) rfl .rfl fun _ => .rfl

end Cert.KernelIdeal.PassB

end
-- ==== Proof.Run.lean ====
module

public import proofs.«01_k».proof.Proof.Gen.KernelIdeal.Regions
public import proofs.«01_k».proof.Proof.ARegion
public import proofs.«01_k».proof.Proof.BRegion
public import Idealize.ShloMosaic.Lib.Pipeline.FrameTail
public import Idealize.ShloMosaic.Lib.Pipeline.RegionArrays

/-! The whole program's run: the host stretches and the two kernels in turn, at any float values, for a table of matches that places every
    block inside the second argument. Every execution ends, with every counter at zero, every argument as launched and the result at what
    the last host stretch computes from what the second kernel leaves. -/

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F)) (a : (p : Fin 2) → (pcfgs (F := F) p).Adm)

/-- What the first kernel finds in the unscoped buffers. -/
abbrev VeA (c : Dev nD) (b : Ref sig .tc) : Buf (Elt F) ((c : Thread nD τ).loc b) := V1 m c (Proc.devRef .tc b)
/-- What the second kernel finds in them. -/
abbrev VeB (c : Dev nD) (b : Ref sig .tc) : Buf (Elt F) ((c : Thread nD τ).loc b) := V3 m outs c (Proc.devRef .tc b)

/-- The two kernels' proof data. -/
def PD : (p : Fin 2) → (c : Dev nD) → Dat τ (Elt F) Unit ℕ (UR sig nD τ) ℕ (Pipeline.pin (pcfgs (F := F)) a p) c
  | ⟨0, _⟩ => fun c => PassA.dat (VeA m) (fun _ => 0) c
  | ⟨1, _⟩ => fun c => PassB.dat (a 1) (VeB m outs) (fun _ => 0) c
  | ⟨_ + 2, h⟩ => absurd h (Nat.not_lt.2 (Nat.le_add_left _ _))

local notation "𝕕" => PD m outs a

/-- No wait is given a level: no kernel owes anything. -/
abbrev LL : GSem nD τ sig → Finset Unit := fun _ => ∅
/-- The levels, never looked at. -/
abbrev lvl : GSem nD τ sig → Unit → ℕ := fun _ _ => 0
/-- No variant is used. -/
abbrev VV : Variants := Variants.none

/-- What a core keeps beside its unscoped buffers between the items. -/
def rest (c : Dev nD) : sProp 𝕄 := iprop((∃ r, prngReg c r) ∗ ∃ W, owes (c : Thread nD τ) (0 : CellTallies nD τ sig Unit) W)

/-- The first kernel changes its three outputs alone. -/
theorem V2_else (c : Dev nD) (b : Ref sig .tc) (hb : b ∉ Finset.univ.image (Pipeline.arrRef spec0)) : V2 m outs c (Proc.devRef .tc b) = V1 m c (Proc.devRef .tc b) := by
  refine V2_of m outs c b fun h => hb ?_
  simp only [List.mem_cons, List.not_mem_nil, or_false] at h
  rcases h with rfl | rfl | rfl
  · exact Finset.mem_image.mpr ⟨3, Finset.mem_univ _, rfl⟩
  · exact Finset.mem_image.mpr ⟨4, Finset.mem_univ _, rfl⟩
  · exact Finset.mem_image.mpr ⟨5, Finset.mem_univ _, rfl⟩

/-- The second kernel changes its one output alone. -/
theorem V4_else (c : Dev nD) (b : Ref sig .tc) (hb : b ∉ Finset.univ.image (Pipeline.arrRef spec1)) : V4 m outs c (Proc.devRef .tc b) = V3 m outs c (Proc.devRef .tc b) := by
  refine V4_of m outs c b fun h => hb ?_
  simp only [List.mem_cons, List.not_mem_nil, or_false] at h
  subst h
  exact Finset.mem_image.mpr ⟨4, Finset.mem_univ _, rfl⟩

theorem V2_mask (c : Dev nD) : V2 m outs c (Proc.devRef .tc main_v16_0) = outs 2 main_v16_0 c := by
  simp only [V2, Function.update_of_ne (StableHlo.devRef_ne_of_ne (by decide : (main_v16_0 : Ref sig .tc) ≠ main_v16_1)), Function.update_of_ne (StableHlo.devRef_ne_of_ne (by decide : (main_v16_0 : Ref sig .tc) ≠ main_v16_2)), Function.update_self]
theorem V2_idx (c : Dev nD) : V2 m outs c (Proc.devRef .tc main_v16_1) = outs 2 main_v16_1 c := by
  simp only [V2, Function.update_of_ne (StableHlo.devRef_ne_of_ne (by decide : (main_v16_1 : Ref sig .tc) ≠ main_v16_2)), Function.update_self]
theorem V2_scale (c : Dev nD) : V2 m outs c (Proc.devRef .tc main_v16_2) = outs 2 main_v16_2 c := by
  simp only [V2, Function.update_self]
theorem V4_out (c : Dev nD) : V4 m outs c (Proc.devRef .tc main_v19) = outs 4 main_v19 c := by
  simp only [V4, Function.update_self]

/-- The contents named `outs` are what the kernels' proof data leave. -/
structure Leaves : Prop where
  mask : ∀ c : Dev nD, outs 2 main_v16_0 c = (PassA.dat (Ix := Unit) (U := UR sig nD τ) (Lvl := ℕ) (VeA m) (fun _ => 0) c).arrAt 3 cfg0.N
  idx : ∀ c : Dev nD, outs 2 main_v16_1 c = (PassA.dat (Ix := Unit) (U := UR sig nD τ) (Lvl := ℕ) (VeA m) (fun _ => 0) c).arrAt 4 cfg0.N
  scale : ∀ c : Dev nD, outs 2 main_v16_2 c = (PassA.dat (Ix := Unit) (U := UR sig nD τ) (Lvl := ℕ) (VeA m) (fun _ => 0) c).arrAt 5 cfg0.N
  out : ∀ c : Dev nD, outs 4 main_v19 c = (PassB.dat (Ix := Unit) (U := UR sig nD τ) (Lvl := ℕ) (a 1) (VeB m outs) (fun _ => 0) c).arrAt 4 (cfg1 (a 1)).N
  table : ∀ (c : Dev nD) (k : Fin pre1.K), (a 1).1 k = VeB m outs c (pre1.ref k)

variable {m outs a}

/-- Each window's array after the first kernel. -/
theorem arrA (H : Leaves m outs a) (c : Dev nD) : ∀ w : Fin cfg0.W, (𝕕 0 c).arrAt w cfg0.N = V2 m outs c (Proc.devRef .tc (Pipeline.arrRef spec0 w)) := fun
  | 0 => ((𝕕 0 c).arrAt_in 0 rfl _).trans ((PassA.A_eq (VeA m) (fun _ => 0) c 0).trans (V2_of m outs c (Pipeline.arrRef spec0 0) (by decide)).symm)
  | 1 => ((𝕕 0 c).arrAt_in 1 rfl _).trans ((PassA.A_eq (VeA m) (fun _ => 0) c 1).trans (V2_of m outs c (Pipeline.arrRef spec0 1) (by decide)).symm)
  | 2 => ((𝕕 0 c).arrAt_in 2 rfl _).trans ((PassA.A_eq (VeA m) (fun _ => 0) c 2).trans (V2_of m outs c (Pipeline.arrRef spec0 2) (by decide)).symm)
  | 3 => (H.mask c).symm.trans (V2_mask m outs c).symm
  | 4 => (H.idx c).symm.trans (V2_idx m outs c).symm
  | 5 => (H.scale c).symm.trans (V2_scale m outs c).symm
  | ⟨_ + 6, h⟩ => absurd h (Nat.not_lt.2 (Nat.le_add_left _ _))

/-- Each window's array after the second kernel. -/
theorem arrB (H : Leaves m outs a) (c : Dev nD) : ∀ w : Fin (cfg1 (a 1)).W, (𝕕 1 c).arrAt w (cfg1 (a 1)).N = V4 m outs c (Proc.devRef .tc (Pipeline.arrRef spec1 w)) := fun
  | 0 => ((𝕕 1 c).arrAt_in 0 rfl _).trans ((PassB.A_eq (a 1) (VeB m outs) (fun _ => 0) c 0).trans (V4_of m outs c (Pipeline.arrRef spec1 0) (by decide)).symm)
  | 1 => ((𝕕 1 c).arrAt_in 1 rfl _).trans ((PassB.A_eq (a 1) (VeB m outs) (fun _ => 0) c 1).trans (V4_of m outs c (Pipeline.arrRef spec1 1) (by decide)).symm)
  | 2 => ((𝕕 1 c).arrAt_in 2 rfl _).trans ((PassB.A_eq (a 1) (VeB m outs) (fun _ => 0) c 2).trans (V4_of m outs c (Pipeline.arrRef spec1 2) (by decide)).symm)
  | 3 => ((𝕕 1 c).arrAt_in 3 rfl _).trans ((PassB.A_eq (a 1) (VeB m outs) (fun _ => 0) c 3).trans (V4_of m outs c (Pipeline.arrRef spec1 3) (by decide)).symm)
  | 4 => (H.out c).symm.trans (V4_out m outs c).symm
  | ⟨_ + 5, h⟩ => absurd h (Nat.not_lt.2 (Nat.le_add_left _ _))

set_option backward.isDefEq.respectTransparency.types false in
/-- The first kernel's arrays go back among the unscoped buffers. -/
theorem joinA (H : Leaves m outs a) (c : Dev nD) :
    iprop((𝕕 0 c).arrays ((𝕕 0 c).arrAt · cfg0.N) ∗ Pipeline.unscopedRest (Ix := Unit) (Name := ℕ) (U := UR sig nD τ) (Lvl := ℕ) spec0 c (VeA m c))
      ⊢ (unscopedBufs c (fun b => V2 m outs c (Proc.devRef .tc b)) : sProp 𝕄) :=
  Pipeline.unscopedBufs_of_arrays (p := (0 : Fin 2)) (pcfgs (F := F)) a (launch0 (F := F)).win (launch0 (F := F)).arr_whole c (𝕕) ((𝕕 0 c).share_full fun _ => rfl)
    (VeA m c) (fun b => V2 m outs c (Proc.devRef .tc b)) ((𝕕 0 c).arrAt · cfg0.N) (arrA H c) (V2_else m outs c)

set_option backward.isDefEq.respectTransparency.types false in
/-- The second kernel's arrays go back among the unscoped buffers. -/
theorem joinB (H : Leaves m outs a) (c : Dev nD) :
    iprop((𝕕 1 c).arrays ((𝕕 1 c).arrAt · (cfg1 (a 1)).N) ∗ Pipeline.unscopedRest (Ix := Unit) (Name := ℕ) (U := UR sig nD τ) (Lvl := ℕ) spec1 c (VeB m outs c))
      ⊢ (unscopedBufs c (fun b => V4 m outs c (Proc.devRef .tc b)) : sProp 𝕄) :=
  Pipeline.unscopedBufs_of_arrays (p := (1 : Fin 2)) (pcfgs (F := F)) a (launch1 (F := F)).win (launch1 (F := F)).arr_whole c (𝕕) ((𝕕 1 c).share_full fun _ => rfl)
    (VeB m outs c) (fun b => V4 m outs c (Proc.devRef .tc b)) ((𝕕 1 c).arrAt · (cfg1 (a 1)).N) (arrB H c) (V4_else m outs c)

set_option backward.isDefEq.respectTransparency.types false in
/-- The first kernel as a segment of the program. -/
def regA (H : Leaves m outs a) : RegionSeg (pcfgs (F := F)) a (𝕕) () defs₀ VV LL lvl 0 where
  win := (launch0 (F := F)).win.to₀
  block_pos := (launch0 (F := F)).block_pos
  stage_whole := (launch0 (F := F)).stage_whole
  K := PEmpty
  osem k := k.elim
  ho := Pipeline.OwnSemFacts.none _
  hbody c := (PassA.body_obligation (U := UR sig nD τ) (Lvl := ℕ) (VeA m) (fun _ => 0) VV () c).loose
  hwaits := Pipeline.hwaits_of_owed_zero (pcfgs (F := F)) a (𝕕) () LL lvl 0 (fun _ _ => rfl)
  pre c := iprop(StableHlo.held (c : Thread nD τ) (Pipeline.ucRefs τ sig) (V1 m c) ∗ rest c)
  post c := iprop(StableHlo.held (c : Thread nD τ) (Pipeline.ucRefs τ sig) (V2 m outs c) ∗ rest c)
  X c := iprop(∃ r, prngReg c r)
  Y c := iprop(∃ r, prngReg c r)
  Z c := Pipeline.unscopedRest (Ix := Unit) (Name := ℕ) (U := UR sig nD τ) (Lvl := ℕ) spec0 c (VeA m c)
  hentry c := by
    rw [Pipeline.ownSems0_none, Pipeline.prefHeld_of_none _ rfl,
      show StableHlo.held (c : Thread nD τ) (Pipeline.ucRefs τ sig) (V1 m c) = unscopedBufs c (VeA m c)
        from (Pipeline.unscopedBufs_held (Ix := Unit) (Name := ℕ) (U := UR sig nD τ) (Lvl := ℕ) c (V1 m c)).symm]
    have hsplit := Pipeline.arrays_of_unscopedBufs (p := (0 : Fin 2)) (pcfgs (F := F)) a (𝕕) (launch0 (F := F)).win (launch0 (F := F)).arr_whole c
      ((𝕕 0 c).share_full fun _ => rfl) (VeA m c) (fun w => PassA.A_eq (F := F) (VeA m) (fun _ => 0) c w)
    unfold rest
    iintro ⟨⟨Hub, Hp, HO⟩, -, -⟩
    ihave HS := hsplit $$ Hub
    icases HS with ⟨Ha, Hrest⟩
    imodintro
    isplitl [Ha]; · iexact Ha
    isplitr; · iempintro
    isplitl [HO]
    · unfold Dat.owesAt Pipeline.owesWithin Dat.bound
      icases HO with ⟨%W, HO⟩; iexists W; isplitr; · ipureintro; exact fun _ _ => Or.inl trivial
      iexact HO
    isplitl [Hp]; · iexact Hp
    iexact Hrest
  hin c := (show (_ : sProp 𝕄) ⊢ PassA.ΦK (F := F) (Ix := Unit) (U := UR sig nD τ) (Lvl := ℕ) c from by
    unfold PassA.ΦK
    iintro ⟨Hp, -, Hr⟩
    isplitl [Hr]; · iexact Hr
    iexact Hp).trans (PassA.hin (VeA m) (fun _ => 0) c)
  hout c := (PassA.hout (VeA m) (fun _ => 0) c).trans (by
    rw [Pipeline.ownSems0_none]; unfold PassA.ΦK
    iintro ⟨Hr, Hp⟩
    isplitl [Hp]; · iexact Hp
    isplitr; · iempintro
    iexact Hr)
  hexit c := by
    have hjoin := joinA H c
    rw [show StableHlo.held (c : Thread nD τ) (Pipeline.ucRefs τ sig) (V2 m outs c) = unscopedBufs c (fun b => V2 m outs c (Proc.devRef .tc b))
        from (Pipeline.unscopedBufs_held (Ix := Unit) (Name := ℕ) (U := UR sig nD τ) (Lvl := ℕ) c (V2 m outs c)).symm]
    unfold rest
    iintro ⟨Ha, HO, Hp, Hrest⟩
    imodintro
    isplitl [Ha Hrest]
    · iapply hjoin; isplitl [Ha] <;> iassumption
    isplitl [Hp]; · iexact Hp
    unfold Dat.owesAt Pipeline.owesWithin
    icases HO with ⟨%W, -, HO⟩; iexists W; iexact HO

set_option backward.isDefEq.respectTransparency.types false in
/-- The second kernel as a segment of the program: the table of matches is taken out of the held buffers, carried through the kernel and
    put back. -/
def regB (H : Leaves m outs a) : RegionSeg (pcfgs (F := F)) a (𝕕) () defs₀ VV LL lvl 1 where
  win := (launch1 (F := F)).win.to₀
  block_pos := (launch1 (F := F)).block_pos
  stage_whole := (launch1 (F := F)).stage_whole
  K := PEmpty
  osem k := k.elim
  ho := Pipeline.OwnSemFacts.none _
  hbody c := (PassB.body_obligation (U := UR sig nD τ) (Lvl := ℕ) (a 1) (VeB m outs) (fun _ => 0) VV () c).loose
  hwaits := Pipeline.hwaits_of_owed_zero (pcfgs (F := F)) a (𝕕) () LL lvl 1 (fun _ _ => rfl)
  pre c := iprop(StableHlo.held (c : Thread nD τ) (Pipeline.ucRefs τ sig) (V3 m outs c) ∗ rest c)
  post c := iprop(StableHlo.held (c : Thread nD τ) (Pipeline.ucRefs τ sig) (V4 m outs c) ∗ rest c)
  X c := iprop(∃ r, prngReg c r)
  Y c := iprop((∃ r, prngReg c r) ∗ Pipeline.prefHeld (Ix := Unit) (Name := ℕ) (U := UR sig nD τ) (Lvl := ℕ) pre1 c (fun _ => fullShare) (a 1).1)
  Z c := Pipeline.unscopedRestP (Ix := Unit) (Name := ℕ) (U := UR sig nD τ) (Lvl := ℕ) pre1 spec1 c (VeB m outs c)
  hentry c := by
    rw [Pipeline.ownSems0_none,
      show StableHlo.held (c : Thread nD τ) (Pipeline.ucRefs τ sig) (V3 m outs c) = unscopedBufs c (VeB m outs c)
        from (Pipeline.unscopedBufs_held (Ix := Unit) (Name := ℕ) (U := UR sig nD τ) (Lvl := ℕ) c (V3 m outs c)).symm]
    have hsplit := Pipeline.arrays_of_unscopedBufs (p := (1 : Fin 2)) (pcfgs (F := F)) a (𝕕) (launch1 (F := F)).win (launch1 (F := F)).arr_whole c
      ((𝕕 1 c).share_full fun _ => rfl) (VeB m outs c) (fun w => PassB.A_eq (F := F) (a 1) (VeB m outs) (fun _ => 0) c w)
    have htab := Pipeline.unscopedRest_split (Ix := Unit) (Name := ℕ) (U := UR sig nD τ) (Lvl := ℕ) preFacts1 c (VeB m outs c)
    rw [show (fun k => VeB m outs c (pre1.ref k)) = (a 1).1 from funext fun k => (H.table c k).symm] at htab
    unfold rest
    iintro ⟨⟨Hub, Hp, HO⟩, -, -⟩
    ihave HS := hsplit $$ Hub
    icases HS with ⟨Ha, Hrest⟩
    ihave HT := (Entails.of_eq htab) $$ Hrest
    icases HT with ⟨Ht, Hrest⟩
    imodintro
    isplitl [Ha]; · iexact Ha
    isplitl [Ht]; · iexact Ht
    isplitl [HO]
    · unfold Dat.owesAt Pipeline.owesWithin Dat.bound
      icases HO with ⟨%W, HO⟩; iexists W; isplitr; · ipureintro; exact fun _ _ => Or.inl trivial
      iexact HO
    isplitl [Hp]; · iexact Hp
    iexact Hrest
  hin c := by
    show (_ : sProp 𝕄) ⊢ PassB.ΦK (F := F) (Ix := Unit) (U := UR sig nD τ) (Lvl := ℕ) (a 1) c
    unfold PassB.ΦK
    iintro ⟨Hp, Ht, Hr⟩
    isplitl [Hr]; · iexact Hr
    isplitl [Hp]; · iexact Hp
    iexact Ht
  hout c := by
    show PassB.ΦK (F := F) (Ix := Unit) (U := UR sig nD τ) (Lvl := ℕ) (a 1) c ⊢ (_ : sProp 𝕄)
    rw [Pipeline.ownSems0_none]; unfold PassB.ΦK
    iintro ⟨Hr, Hp, Ht⟩
    isplitl [Hp Ht]
    · isplitl [Hp]; · iexact Hp
      iexact Ht
    isplitr; · iempintro
    iexact Hr
  hexit c := by
    have hjoin := joinB H c
    have htab := Pipeline.unscopedRest_split (Ix := Unit) (Name := ℕ) (U := UR sig nD τ) (Lvl := ℕ) preFacts1 c (VeB m outs c)
    rw [show (fun k => VeB m outs c (pre1.ref k)) = (a 1).1 from funext fun k => (H.table c k).symm] at htab
    rw [show StableHlo.held (c : Thread nD τ) (Pipeline.ucRefs τ sig) (V4 m outs c) = unscopedBufs c (fun b => V4 m outs c (Proc.devRef .tc b))
        from (Pipeline.unscopedBufs_held (Ix := Unit) (Name := ℕ) (U := UR sig nD τ) (Lvl := ℕ) c (V4 m outs c)).symm]
    unfold rest
    iintro ⟨Ha, HO, ⟨Hp, Ht⟩, Hrest⟩
    ihave HR := (Entails.of_eq htab.symm) $$ [Ht Hrest]
    · isplitl [Ht] <;> iassumption
    imodintro
    isplitl [Ha HR]
    · iapply hjoin; isplitl [Ha] <;> iassumption
    isplitl [Hp]; · iexact Hp
    unfold Dat.owesAt Pipeline.owesWithin
    icases HO with ⟨%W, -, HO⟩; iexists W; iexact HO

set_option backward.isDefEq.respectTransparency.types false in
/-- Every execution of the program ends, each of the host's buffers holding what the last stretch leaves, every counter at zero. -/
theorem run (H : Leaves m outs a) (ρ : Dev nD → PrngReg) :
    θ_run defs (onTc (τ := τ) (main (F := F))) ⟨m, fun _ => 0, ρ⟩ (fun r => (∀ c : Dev nD, ∀ b : Ref sig .tc, Proc.devRef .tc b ∈ Pipeline.ucRefs τ sig →
      r.2.mem ((c.tc : Thread nD τ).loc b) = V5 m outs c (Proc.devRef .tc b)) ∧ r.2.sem = fun _ => 0) := by
  refine Pipeline.θ_run_regions_kit_dev_sems (pcfgs (F := F)) a (𝕕) () (cellOf_inj a) emb₁ defs₀ VV LL lvl m ρ main
    (segs m outs VV LL lvl (fun _ => rest (F := F)) () a (𝕕) (regA H) (regB H))
    (fun c Q => by
      rewrite [main_chain c, Seg.run_eq_chain,
        show (segs m outs VV LL lvl (fun _ => rest (F := F)) () a (𝕕) (regA H) (regB H) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells (Pipeline.pin (pcfgs (F := F)) a) (cellOf_inj a)) (Pipeline.launchToks (Pipeline.pin (pcfgs (F := F)) a) (cellOf_inj a)))
    (hu₀ := by
      iintro Hu; imodintro
      isplitl [Hu]
      · iapply (show (ownU _ : sProp 𝕄) ⊢ BI.own (emb₁ (initOf (Pipeline.cells (Pipeline.pin (pcfgs (F := F)) a) (cellOf_inj a)) (Pipeline.launchToks (Pipeline.pin (pcfgs (F := F)) a) (cellOf_inj a)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m outs c))
    (hch := fun c => ⟨.rfl, .rfl, .rfl, .rfl, .rfl, ?_⟩)
    (hinit := ?_) (QY := fun c s => ∀ b : DevRef τ sig, b ∈ Pipeline.ucRefs τ sig → s.mem ((c.tc : Thread nD τ).1, b) = V5 m outs c b)
    (hfin := fun c s' => ?_) (hQ := fun _ h hz => ⟨fun c b hb => h c (Proc.devRef .tc b) hb, funext fun g => hz g (.inr (regions_no_unscoped g.2))⟩)
  · show iprop(StableHlo.held (c : Thread nD τ) (Pipeline.ucRefs τ sig) (V5 m outs c) ∗ rest c) ⊢ (_ : sProp 𝕄)
    unfold rest
    iintro ⟨Hh, -, HO⟩
    isplitl [Hh] <;> iassumption
  · refine Pipeline.initEach LL lvl fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [Hp]; · iexists _; iexact Hp
    iexists _; iexact HO
  · unfold StableHlo.held
    iintro ⟨Hh, HSI⟩
    ihave Hr := (pointsTo_read_all (Pipeline.ucRefs τ sig) (fun b => ((c.tc : Thread nD τ).1, b)) (V5 m outs c) s') $$ [Hh HSI]
    · isplitl [Hh] <;> iassumption
    imodintro; iexact Hr

end Cert.KernelIdeal.Whole

end
-- ==== Proof.KerAcc.lean ====
/-
  What the first kernel's three scratch arrays hold after a number of grid points: the counts over the voxels of the
  blocks seen so far, as 32-bit words.
-/
module

public import proofs.«01_k».proof.Proof.KerHost
public import proofs.«01_k».proof.Proof.Run
public import Idealize.ShloMosaic.Lib.IntMxu
public import Idealize.ShloMosaic.Lib.Pipeline.ValueKit

@[expose] public section

set_option maxRecDepth 16384

noncomputable section

namespace Cert.KernelIdeal.Val

open Idealize.ShloMosaic Cert.KernelIdeal Cert.Math
open Cert.KernelIdeal.Gen (V0 V1 V2 V3 V4 V5 Outs k0_pay6 k0_pay7 k0_pay8 k0_pay12 k0_pay13 k0_pay14)
open Cert.KernelIdeal.Whole (VeA VeB)
open Cert.KernelIdeal.Facts Cert.KernelIdeal.Facts₀

/-- The product of two blocks, transposed, is a sum over the block's voxels. -/
theorem dot_both (lhs rhs : IVec S8192x100 8) (q r : Fin 100) :
    dotI8 dot_S8192x100_S8192x100_S100x100_0_0_1_1_n_n lhs rhs (ix2 q r) = ∑ k : Fin 8192, (lhs (ix2 k q)).toInt * (rhs (ix2 k r)).toInt := by
  unfold dotI8
  rw [DotDims.sum_contr₁ _ (a := 0) (K := 8192) rfl rfl]
  refine Finset.sum_congr rfl fun k _ => ?_
  have hl : dot_S8192x100_S8192x100_S100x100_0_0_1_1_n_n.lhsIdx (ix2 q r) (dot_S8192x100_S8192x100_S100x100_0_0_1_1_n_n.contrIdx₁ (a := 0) (K := 8192) rfl rfl k) = ix2 k q := by
    funext a; match a with | ⟨0, _⟩ => rfl | ⟨1, _⟩ => rfl
  have hr : dot_S8192x100_S8192x100_S100x100_0_0_1_1_n_n.rhsIdx (ix2 q r) (dot_S8192x100_S8192x100_S100x100_0_0_1_1_n_n.contrIdx₁ (a := 0) (K := 8192) rfl rfl k) = ix2 k r := by
    funext a; match a with | ⟨0, _⟩ => rfl | ⟨1, _⟩ => rfl
  rw [hl, hr]

/-- The product of a block with a block of columns, transposed. -/
theorem dot_left (lhs : IVec S8192x100 8) (rhs : IVec S8192x8 8) (q : Fin 100) (j : Fin 8) :
    dotI8 dot_S8192x100_S8192x8_S100x8_0_0_1_1_n_n lhs rhs (ix2 q j) = ∑ k : Fin 8192, (lhs (ix2 k q)).toInt * (rhs (ix2 k j)).toInt := by
  unfold dotI8
  rw [DotDims.sum_contr₁ _ (a := 0) (K := 8192) rfl rfl]
  refine Finset.sum_congr rfl fun k _ => ?_
  have hl : dot_S8192x100_S8192x8_S100x8_0_0_1_1_n_n.lhsIdx (ix2 q j) (dot_S8192x100_S8192x8_S100x8_0_0_1_1_n_n.contrIdx₁ (a := 0) (K := 8192) rfl rfl k) = ix2 k q := by
    funext a; match a with | ⟨0, _⟩ => rfl | ⟨1, _⟩ => rfl
  have hr : dot_S8192x100_S8192x8_S100x8_0_0_1_1_n_n.rhsIdx (ix2 q j) (dot_S8192x100_S8192x8_S100x8_0_0_1_1_n_n.contrIdx₁ (a := 0) (K := 8192) rfl rfl k) = ix2 k j := by
    funext a; match a with | ⟨0, _⟩ => rfl | ⟨1, _⟩ => rfl
  rw [hl, hr]

/-- The product of a block of columns, transposed, with a block. -/
theorem dot_right (lhs : IVec S8192x8 8) (rhs : IVec S8192x100 8) (j : Fin 8) (r : Fin 100) :
    dotI8 dot_S8192x8_S8192x100_S8x100_0_0_1_1_n_n lhs rhs (ix2 j r) = ∑ k : Fin 8192, (lhs (ix2 k j)).toInt * (rhs (ix2 k r)).toInt := by
  unfold dotI8
  rw [DotDims.sum_contr₁ _ (a := 0) (K := 8192) rfl rfl]
  refine Finset.sum_congr rfl fun k _ => ?_
  have hl : dot_S8192x8_S8192x100_S8x100_0_0_1_1_n_n.lhsIdx (ix2 j r) (dot_S8192x8_S8192x100_S8x100_0_0_1_1_n_n.contrIdx₁ (a := 0) (K := 8192) rfl rfl k) = ix2 k j := by
    funext a; match a with | ⟨0, _⟩ => rfl | ⟨1, _⟩ => rfl
  have hr : dot_S8192x8_S8192x100_S8x100_0_0_1_1_n_n.rhsIdx (ix2 j r) (dot_S8192x8_S8192x100_S8x100_0_0_1_1_n_n.contrIdx₁ (a := 0) (K := 8192) rfl rfl k) = ix2 k r := by
    funext a; match a with | ⟨0, _⟩ => rfl | ⟨1, _⟩ => rfl
  rw [hl, hr]

/-- Where both operands hold zeros and ones, the products' magnitudes total at most the contraction's length. -/
theorem absDot_le {sl sr so : Shape} (d : DotDims sl sr so) (lhs : IVec sl 8) (rhs : IVec sr 8) (j : so.Idx)
    (hl : ∀ i, (lhs i).toInt = 0 ∨ (lhs i).toInt = 1) (hr : ∀ i, (rhs i).toInt = 0 ∨ (rhs i).toInt = 1) :
    absDotI8 d lhs rhs j ≤ d.contr.numel := by
  unfold absDotI8
  refine (Finset.sum_le_card_nsmul _ _ 1 fun k _ => ?_).trans ?_
  · rcases hl (d.lhsIdx j k) with h | h <;> rcases hr (d.rhsIdx j k) with g | g <;> rw [h, g] <;> decide
  · rw [Finset.card_univ, Shape.card_idx]; simp

/-- An indicator's word read back. -/
theorem toInt_ind (n : ℕ) (h : n ≤ 1) : (BitVec.ofNat 8 n).toInt = n := by
  interval_cases n <;> rfl

/-- A sum of products of counts, as a word. -/
theorem ofInt_sum {n : ℕ} (f g : Fin n → ℕ) : BitVec.ofInt 32 (∑ k, ((f k : ℤ) * (g k : ℤ))) = BitVec.ofNat 32 (∑ k, f k * g k) := by
  rw [← BitVec.ofInt_natCast]
  push_cast
  rfl

/-- Every index of a two-axis array is its coordinates'. -/
theorem forall_ix2 {n0 n1 : ℕ} {P : (⟨2, ![n0, n1]⟩ : Shape).Idx → Prop} (h : ∀ a b, P (ix2 a b)) : ∀ i, P i := fun i => by
  have : i = ix2 (i 0) (i 1) := by funext a; match a with | ⟨0, _⟩ => rfl | ⟨1, _⟩ => rfl
  rw [this]; exact h _ _

theorem bit_cases (n : ℕ) (h : n ≤ 1) (b : BitVec 8) (e : b = BitVec.ofNat 8 n) : b.toInt = 0 ∨ b.toInt = 1 := by
  subst e; rw [toInt_ind n h]; omega

/-- The matrix unit's product of two blocks of indicators is a count. -/
theorem mm_both (lhs rhs : IVec S8192x100 8) (f g : Fin 8192 → Fin 100 → ℕ) (hf : ∀ k q, f k q ≤ 1) (hg : ∀ k q, g k q ≤ 1)
    (hl : ∀ k q, lhs (ix2 k q) = BitVec.ofNat 8 (f k q)) (hr : ∀ k q, rhs (ix2 k q) = BitVec.ofNat 8 (g k q)) (q r : Fin 100) :
    matmulI8 IntMxuNumerics.v7x dot_S8192x100_S8192x100_S100x100_0_0_1_1_n_n lhs rhs (constantI S100x100 32 0#32) (ix2 q r)
      = BitVec.ofNat 32 (∑ k, f k q * g k r) := by
  rw [matmulI8_exact _ _ _ _ _ _ rfl ((absDot_le _ _ _ _ (forall_ix2 fun k q => bit_cases _ (hf k q) _ (hl k q))
    (forall_ix2 fun k q => bit_cases _ (hg k q) _ (hr k q))).trans (by decide)), dot_both, ← ofInt_sum]
  refine congrArg _ (Finset.sum_congr rfl fun k _ => ?_)
  rw [hl, hr, toInt_ind _ (hf k q), toInt_ind _ (hg k r)]

/-- The matrix unit's product of a block of indicators with columns of ones is a count. -/
theorem mm_left (lhs : IVec S8192x100 8) (rhs : IVec S8192x8 8) (f : Fin 8192 → Fin 100 → ℕ) (hf : ∀ k q, f k q ≤ 1)
    (hl : ∀ k q, lhs (ix2 k q) = BitVec.ofNat 8 (f k q)) (hr : ∀ k j, rhs (ix2 k j) = 1#8) (q : Fin 100) (j : Fin 8) :
    matmulI8 IntMxuNumerics.v7x dot_S8192x100_S8192x8_S100x8_0_0_1_1_n_n lhs rhs (constantI S100x8 32 0#32) (ix2 q j)
      = BitVec.ofNat 32 (∑ k, f k q) := by
  rw [matmulI8_exact _ _ _ _ _ _ rfl ((absDot_le _ _ _ _ (forall_ix2 fun k q => bit_cases _ (hf k q) _ (hl k q))
    (forall_ix2 fun k q => bit_cases 1 le_rfl _ (hr k q))).trans (by decide)), dot_left, ← BitVec.ofInt_natCast]
  refine congrArg _ ?_
  push_cast
  refine Finset.sum_congr rfl fun k _ => ?_
  rw [hl, hr, toInt_ind _ (hf k q)]
  exact mul_one _

/-- The same from the other side. -/
theorem mm_right (lhs : IVec S8192x8 8) (rhs : IVec S8192x100 8) (g : Fin 8192 → Fin 100 → ℕ) (hg : ∀ k q, g k q ≤ 1)
    (hl : ∀ k j, lhs (ix2 k j) = 1#8) (hr : ∀ k q, rhs (ix2 k q) = BitVec.ofNat 8 (g k q)) (j : Fin 8) (r : Fin 100) :
    matmulI8 IntMxuNumerics.v7x dot_S8192x8_S8192x100_S8x100_0_0_1_1_n_n lhs rhs (constantI S8x100 32 0#32) (ix2 j r)
      = BitVec.ofNat 32 (∑ k, g k r) := by
  rw [matmulI8_exact _ _ _ _ _ _ rfl ((absDot_le _ _ _ _ (forall_ix2 fun k q => bit_cases 1 le_rfl _ (hl k q))
    (forall_ix2 fun k q => bit_cases _ (hg k q) _ (hr k q))).trans (by decide)), dot_right, ← BitVec.ofInt_natCast]
  refine congrArg _ ?_
  push_cast
  refine Finset.sum_congr rfl fun k _ => ?_
  rw [hl, hr, toInt_ind _ (hg k r)]
  exact one_mul _

/-! ## The payloads that add a block's counts -/

theorem pay12_apply (x y : Vec Ideal S8192x100 .i8) (z : Vec Ideal S100x100 .i32) (q r : Fin 100) :
    k0_pay12 (F := Ideal) x y z (ix2 q r) = z (ix2 q r) + matmulI8 IntMxuNumerics.v7x dot_S8192x100_S8192x100_S100x100_0_0_1_1_n_n x y (constantI S100x100 32 0#32) (ix2 q r) := by
  unfold k0_pay12 Gen.k0_pay9 Gen.k0_pay10
  simp only [shapeCast_self]
  rfl

theorem pay13_apply (x : Vec Ideal S8192x100 .i8) (z : Vec Ideal S100x8 .i32) (q : Fin 100) (j : Fin 8) :
    k0_pay13 (F := Ideal) x z (ix2 q j) = z (ix2 q j) + matmulI8 IntMxuNumerics.v7x dot_S8192x100_S8192x8_S100x8_0_0_1_1_n_n x (fun _ => 1#8) (constantI S100x8 32 0#32) (ix2 q j) := by
  unfold k0_pay13 Gen.k0_pay9 Gen.k0_pay11
  simp only [shapeCast_self]
  rfl

theorem pay14_apply (y : Vec Ideal S8192x100 .i8) (z : Vec Ideal S8x100 .i32) (j : Fin 8) (r : Fin 100) :
    k0_pay14 (F := Ideal) y z (ix2 j r) = z (ix2 j r) + matmulI8 IntMxuNumerics.v7x dot_S8192x8_S8192x100_S8x100_0_0_1_1_n_n (fun _ => 1#8) y (constantI S8x100 32 0#32) (ix2 j r) := by
  unfold k0_pay14 Gen.k0_pay10 Gen.k0_pay11
  simp only [shapeCast_self]
  rfl

/-! ## The blocks of thresholded masks -/

variable (m : (ℓ : Loc nD τ sig) → Buf (Elt Ideal) ℓ) (c : Dev nD)

/-- The first masks, coordinate by coordinate. -/
abbrev mA : Masks := masks (m ((c.tc : Thread nD τ).loc main_arg2))
/-- The second masks, coordinate by coordinate. -/
abbrev mB : Masks := masks (m ((c.tc : Thread nD τ).loc main_arg3))
/-- The scores, coordinate by coordinate. -/
abbrev mS : Scores := scores (m ((c.tc : Thread nD τ).loc main_arg4))

theorem N0 : cfg0.N = 32 := by decide +kernel

/-- Where the first kernel's windows stand at a grid point. -/
theorem index0 : ∀ t : Fin cfg0.N, (cfg0.win 0).index t = ![t.val, 0] ∧ (cfg0.win 1).index t = ![t.val, 0] ∧ (cfg0.win 2).index t = ![0, t.val, 0]
    ∧ (cfg0.win 3).index t = ![0, t.val, 0] := by decide +kernel

theorem blkA (t : Fin cfg0.N) (k : Fin 8192) (q : Fin 100) :
    PassA.iblk (VeA m) c 0 t (ix2 k q) = BitVec.ofNat 8 (kind (mA m c) q (8192 * t.val + k.val)) := by
  have h : 8192 * t.val + k.val < 262144 := by have := t.isLt; have := N0; omega
  have e : PassA.iblk (VeA m) c 0 t (ix2 k q) = VeA m c main_v10 (ix2 (⟨8192 * t.val + k.val, h⟩ : Fin 262144) q) := by
    blk_ext [PassA.iblk, (index0 t).1]
  rw [e, kind, dif_pos h]
  exact (congrFun (V1_v10 m c) _).trans (thr_flat_apply _ q ⟨_, h⟩)

theorem blkB (t : Fin cfg0.N) (k : Fin 8192) (q : Fin 100) :
    PassA.iblk (VeA m) c 1 t (ix2 k q) = BitVec.ofNat 8 (kind (mB m c) q (8192 * t.val + k.val)) := by
  have h : 8192 * t.val + k.val < 262144 := by have := t.isLt; have := N0; omega
  have e : PassA.iblk (VeA m) c 1 t (ix2 k q) = VeA m c main_v15 (ix2 (⟨8192 * t.val + k.val, h⟩ : Fin 262144) q) := by
    blk_ext [PassA.iblk, (index0 t).2.1]
  rw [e, kind, dif_pos h]
  exact (congrFun (V1_v15 m c) _).trans (thr_flat_apply _ q ⟨_, h⟩)

/-! ## The scratch arrays -/

/-- After `n` grid points the three scratch arrays hold the counts over the first `n` blocks. -/
theorem acc_eq (n : ℕ) (hn : n ≤ 32) :
    (∀ q r : Fin 100, (PassA.acc (VeA m) c n).1 (ix2 q r) = BitVec.ofNat 32 (bothTo (mA m c) (mB m c) q r (8192 * n)))
      ∧ (∀ (q : Fin 100) (j : Fin 8), (PassA.acc (VeA m) c n).2.1 (ix2 q j) = BitVec.ofNat 32 (areaTo (mA m c) q (8192 * n)))
      ∧ (∀ (j : Fin 8) (r : Fin 100), (PassA.acc (VeA m) c n).2.2 (ix2 j r) = BitVec.ofNat 32 (areaTo (mB m c) r (8192 * n))) := by
  induction n with
  | zero => exact ⟨fun _ _ => rfl, fun _ _ => rfl, fun _ _ => rfl⟩
  | succ n ih =>
    obtain ⟨h1, h2, h3⟩ := ih (by omega)
    have e := PassA.acc_succ (VeA m) c ⟨n, by rw [N0]; omega⟩
    dsimp only at e
    rw [e]
    refine ⟨fun q r => ?_, fun q j => ?_, fun j r => ?_⟩
    · dsimp only
      rw [pay12_apply, h1, mm_both _ _ (fun k q => kind (mA m c) q (8192 * n + k.val)) (fun k q => kind (mB m c) q (8192 * n + k.val))
        (fun _ _ => kind_le _ _ _) (fun _ _ => kind_le _ _ _) (fun k q => blkA m c _ k q) (fun k q => blkB m c _ k q), bothTo_block, BitVec.ofNat_add]
    · dsimp only
      rw [pay13_apply, h2, mm_left _ _ (fun k q => kind (mA m c) q (8192 * n + k.val))
        (fun _ _ => kind_le _ _ _) (fun k q => blkA m c _ k q) (fun _ _ => rfl), areaTo_block, BitVec.ofNat_add]
    · dsimp only
      rw [pay14_apply, h3, mm_right _ _ (fun k q => kind (mB m c) q (8192 * n + k.val))
        (fun _ _ => kind_le _ _ _) (fun _ _ => rfl) (fun k q => blkB m c _ k q), areaTo_block, BitVec.ofNat_add]

/-- After the last point: the counts over every voxel. -/
theorem acc_all :
    (∀ q r : Fin 100, (PassA.acc (VeA m) c 32).1 (ix2 q r) = BitVec.ofNat 32 (both (mA m c) (mB m c) q r))
      ∧ (∀ (q : Fin 100) (j : Fin 8), (PassA.acc (VeA m) c 32).2.1 (ix2 q j) = BitVec.ofNat 32 (area (mA m c) q))
      ∧ (∀ (j : Fin 8) (r : Fin 100), (PassA.acc (VeA m) c 32).2.2 (ix2 j r) = BitVec.ofNat 32 (area (mB m c) r)) := by
  obtain ⟨h1, h2, h3⟩ := acc_eq m c 32 le_rfl
  exact ⟨fun q r => by rw [h1, ← bothTo_all], fun q j => by rw [h2, ← areaTo_all], fun j r => by rw [h3, ← areaTo_all]⟩

end Cert.KernelIdeal.Val

end

end
-- ==== Proof.KerTab.lean ====
/-
  The first kernel's payloads at an index: the table of intersections over unions, the best match of each query and its
  scale, and the mask of the voxels that are not free space.
-/
module

public import proofs.«01_k».proof.Proof.KerAcc

@[expose] public section

set_option maxRecDepth 16384

noncomputable section

namespace Cert.Math

open Idealize.ShloMosaic

/-- A row has a first position of its greatest value. -/
theorem exists_isArg {n : ℕ} (hn : 0 < n) (hn' : n ≤ 2 ^ 31) (x : Fin n → EReal) : ∃ k, IsArg x k := by
  obtain ⟨k, _, h⟩ := foldl_arg hn hn' x ((List.finRange n).map fun k => (x k, BitVec.ofNat 32 k.val)) fun e => by
    simp only [List.mem_map, List.mem_finRange, true_and]
  exact ⟨k, h⟩

/-- The signed minimum of two words is the minimum of their values. -/
theorem toInt_minsi (a b : BitVec 32) : (IntOp.minsi a b).toInt = min a.toInt b.toInt := by
  unfold IntOp.minsi
  by_cases h : a.toInt < b.toInt
  · rw [min_eq_left h.le]; simp [BitVec.slt, h]
  · rw [min_eq_right (not_lt.mp h)]; simp [BitVec.slt, h]

/-- The least position at which a row takes its greatest value is the first such position. -/
theorem fold_minsi {x : Fin 100 → EReal} {k : Fin 100} (hk : IsArg x k) :
    Finset.fold IntOp.minsi 2147483647#32 (fun r : Fin 100 => if x r = x k then BitVec.ofNat 32 r.val else 100#32) Finset.univ = BitVec.ofNat 32 k.val := by
  apply BitVec.eq_of_toInt_eq
  have hK := toInt_ofNat (k := k.val) (by omega)
  rw [← Finset.fold_hom (op' := min) (m := BitVec.toInt) (hm := toInt_minsi), hK]
  apply le_antisymm
  · refine (Finset.fold_min_le _).mpr (Or.inr ⟨k, Finset.mem_univ _, ?_⟩)
    rw [if_pos rfl, hK]
  · refine (Finset.le_fold_min _).mpr ⟨?_, fun r _ => ?_⟩
    · have : (2147483647#32 : BitVec 32).toInt = 2147483647 := by decide
      show (k.val : ℤ) ≤ (2147483647#32 : BitVec 32).toInt
      rw [this]; omega
    · by_cases h : x r = x k
      · rw [if_pos h, toInt_ofNat (by omega)]
        rcases hk r with g | ⟨_, g⟩
        · exact absurd h g.ne
        · exact_mod_cast g
      · rw [if_neg h]
        have : (100#32 : BitVec 32).toInt = 100 := by decide
        rw [this]; omega

end Cert.Math

namespace Cert.KernelIdeal.Val

open Idealize.ShloMosaic Cert.KernelIdeal Cert.Math
open Cert.KernelIdeal.Gen (k0_pay1 k0_pay2 k0_pay3 k0_pay4 k0_pay5 k0_pay15 k0_pay16)
open Cert.KernelIdeal.Facts Cert.KernelIdeal.Facts₀

section Tables

variable (x : Vec Ideal S100x100 .i32) (y : Vec Ideal S100x1 .i32) (z : Vec Ideal S1x100 .i32) (A B : Masks)
variable (hx : ∀ q r : Fin 100, x (ix2 q r) = BitVec.ofNat 32 (both A B q r)) (hy : ∀ q : Fin 100, y (ix2 q 0) = BitVec.ofNat 32 (area A q))
  (hz : ∀ r : Fin 100, z (ix2 0 r) = BitVec.ofNat 32 (area B r))

/-- A count's word as an extended real. -/
theorem sitofp_ofNat (n : ℕ) (h : n < 2 ^ 31) : FloatOps.sitofp (F := Ideal) .f32 (BitVec.ofNat 32 n) = ((n : ℝ) : EReal) := by
  show (((BitVec.ofNat 32 n).toInt : ℝ) : EReal) = _
  rw [toInt_ofNat h]; norm_cast

include hx hy hz

/-- The table from the counts. -/
theorem pay2_apply (q r : Fin 100) : k0_pay2 (F := Ideal) x y z (ix2 q r) = iou A B q r := by
  have h1 := both_le A B q r
  have h2 := area_le A q
  have h3 := area_le B r
  pointwise [k0_pay2]
  rw [hx, hy, hz, show IntOp.addi (BitVec.ofNat 32 (area A q)) (BitVec.ofNat 32 (area B r)) = BitVec.ofNat 32 (area A q + area B r) from (BitVec.ofNat_add _ _).symm,
    sitofp_ofNat _ (by omega), sitofp_ofNat _ (by omega), Nat.cast_add, EReal.coe_add]
  rfl

/-- The best value of each row. -/
theorem pay3_apply (q k : Fin 100) (hk : IsArg (iou A B q) k) : k0_pay3 (F := Ideal) x y z (ix2 q 0) = iou A B q k := by
  pointwise [k0_pay3]
  have e : (fun r => k0_pay2 (F := Ideal) x y z (ix2 q r)) = iou A B q := funext fun r => pay2_apply x y z A B hx hy hz q r
  exact (congrArg₂ (fun b f => Finset.fold max b f Finset.univ) ofBits_neg_inf e).trans hk.fold_max

/-- The table of matches. -/
theorem pay4_apply (q k : Fin 100) (hk : IsArg (iou A B q) k) : k0_pay4 (F := Ideal) x y z (ix2 ⟨q.val, by omega⟩ 0) = BitVec.ofNat 32 k.val := by
  pointwise [k0_pay4]
  simp only [pay2_apply x y z A B hx hy hz, pay3_apply x y z A B hx hy hz q k hk]
  exact fold_minsi hk

/-- The table of scales. -/
theorem pay5_apply (q k : Fin 100) (hk : IsArg (iou A B q) k) :
    k0_pay5 (F := Ideal) x y z (ix2 ⟨q.val, by omega⟩ 0) = if Ideal.ofBits .f32 0x3E4CCCCD#32 < iou A B q k then (2 : EReal)⁻¹ else 0 := by
  pointwise [k0_pay5]
  simp only [pay3_apply x y z A B hx hy hz q k hk]
  exact if_congr Iff.rfl ofBits_half rfl

end Tables

/-- The mask: one where some class but the first scores above the first. -/
theorem pay1_apply (v : Vec Ideal S20x64x128 .f32) (a : Fin 64) (b : Fin 128) :
    k0_pay1 (F := Ideal) (k0_pay15 v) (k0_pay16 v) (ix3 0 a b) = if ∃ c, v (ix3 0 a b) < v (ix3 c a b) then (1 : EReal) else 0 := by
  pointwise [k0_pay1, k0_pay15, k0_pay16]
  have e : (v (ix3 0 a b) < Finset.fold max (Ideal.ofBits .f32 4286578688#32) (fun x : Fin 19 => v (ix3 ⟨1 + x.val, by omega⟩ a b)) Finset.univ)
      ↔ ∃ c, v (ix3 0 a b) < v (ix3 c a b) := by
    rw [Finset.lt_fold_max]
    constructor
    · rintro (h | ⟨x, _, h⟩)
      · rw [show Ideal.ofBits .f32 4286578688#32 = ⊥ from ofBits_neg_inf] at h
        exact absurd h not_lt_bot
      · exact ⟨_, h⟩
    · rintro ⟨c, h⟩
      have hc : c.val ≠ 0 := fun h0 => by
        rw [show c = 0 from Fin.ext h0] at h
        exact absurd h (lt_irrefl _)
      refine Or.inr ⟨⟨c.val - 1, by omega⟩, Finset.mem_univ _, ?_⟩
      have : (⟨1 + (c.val - 1), by omega⟩ : Fin 20) = c := Fin.ext (by dsimp only; omega)
      dsimp only
      rw [this]; exact h
  rw [← if_congr e rfl rfl]
  split
  · rename_i h
    rw [decide_eq_true h]
    show ((((1#32 : BitVec 32).toInt : ℝ)) : EReal) = 1
    simp
  · rename_i h
    rw [decide_eq_false h]
    show ((((0#32 : BitVec 32).toInt : ℝ)) : EReal) = 0
    simp

end Cert.KernelIdeal.Val

end

end
-- ==== Proof.KerOutA.lean ====
/-
  The arrays the first kernel leaves: the mask of the voxels that are not free space, the table of matches and the
  table of scales.
-/
module

public import proofs.«01_k».proof.Proof.KerTab

@[expose] public section

set_option maxRecDepth 16384

noncomputable section

namespace Cert.KernelIdeal.Val

open Idealize.ShloMosaic Cert.KernelIdeal Cert.Math
open Cert.KernelIdeal.Gen (V0 V1 V2 V3 V4 V5 Outs)
open Cert.KernelIdeal.Whole (VeA VeB)
open Cert.KernelIdeal.Facts Cert.KernelIdeal.Facts₀
open Idealize.ShloMosaic.Pipeline (arrRef)

variable (m : (ℓ : Loc nD τ sig) → Buf (Elt Ideal) ℓ) (c : Dev nD)

/-- The first kernel's proof data at this launch. -/
abbrev datA := PassA.dat (Ix := Unit) (U := UR sig nD τ) (Lvl := ℕ) (VeA m) (fun _ => 0) c

/-- The mask as an array. -/
def maskArr : Vec Ideal S1x2048x128 .f32 := fun i =>
  full (mS m c) ⟨(i 1).val / 16, by have := (i 1).isLt; simp at this; omega⟩ (i 2) ⟨(i 1).val % 16, by omega⟩

theorem maskArr_apply (u : Fin 2048) (l : Fin 128) :
    maskArr m c (ix3 0 u l) = full (mS m c) ⟨u.val / 16, by omega⟩ l ⟨u.val % 16, by omega⟩ := rfl

/-- A block of the scores at an index. -/
theorem blkS (t : Fin cfg0.N) (q : Fin 20) (a : Fin 64) (b : Fin 128) (h : 64 * t.val + a.val < 2048) :
    PassA.iblk (VeA m) c 2 t (ix3 q a b) = mS m c q ⟨(64 * t.val + a.val) / 16, by omega⟩ b ⟨(64 * t.val + a.val) % 16, by omega⟩ := by
  have e : PassA.iblk (VeA m) c 2 t (ix3 q a b) = VeA m c main_v5 (ix3 q (⟨64 * t.val + a.val, h⟩ : Fin 2048) b) := by
    blk_ext [PassA.iblk, (index0 t).2.2.1]
  rw [e]
  exact (congrFun (V1_v5 m c) _).trans (flatS_apply _ q ⟨_, h⟩ b)

/-- The block of the mask a point leaves, at an index. -/
theorem maskAt_apply (t : Fin cfg0.N) (a : Fin 64) (b : Fin 128) (h : 64 * t.val + a.val < 2048) :
    PassA.maskAt (VeA m) c t (ix3 0 a b) = full (mS m c) ⟨(64 * t.val + a.val) / 16, by omega⟩ b ⟨(64 * t.val + a.val) % 16, by omega⟩ := by
  unfold PassA.maskAt
  rw [pay1_apply]
  simp only [blkS m c t _ a b h]
  rfl

/-- The mask the first kernel leaves. -/
theorem arr_mask : (datA m c).arrAt 3 cfg0.N = maskArr m c := by
  refine (datA m c).arrAt_eq_of_covers 3 _ (by decide +kernel) fun t hf y => ?_
  have hy : (y : S1x64x128.Idx) = ix3 0 (y 1) (y 2) := by
    funext a; match a with | ⟨0, _⟩ => exact Subsingleton.elim (α := Fin 1) _ _ | ⟨1, _⟩ => rfl | ⟨2, _⟩ => rfl
  have h : 64 * t.val + (y 1).val < 2048 := by
    have h1 := t.isLt
    have h2 : (y 1).val < 64 := (y 1).isLt
    have := N0
    have h3 : t.val < cfg0.N := h1
    omega
  have e : ((cfg0.win 3).blk t).view.emb y = ix3 0 (⟨64 * t.val + (y 1).val, h⟩ : Fin 2048) (y 2) := by
    blk_ext [(index0 t).2.2.2]
  rw [e, PassA.after0_3]
  exact (congrArg (PassA.maskAt (VeA m) c t) hy).trans (maskAt_apply m c t (y 1) (y 2) h)

/-- The table of matches the first kernel leaves. -/
theorem arr_idx : (datA m c).arrAt 4 cfg0.N = PassA.idxAt (VeA m) c 32 := by
  refine (datA m c).arrAt_eq_of_after_last 4 (⟨31, by decide⟩ : Fin cfg0.N) (by decide +kernel) _ fun j => ?_
  blk_simp
  exact (congrFun (PassA.after0_4 (VeA m) (fun _ => 0) c ⟨31, by decide⟩) _).trans (congrArg (PassA.idxAt (VeA m) c 32) rfl)

/-- The table of scales the first kernel leaves. -/
theorem arr_scale : (datA m c).arrAt 5 cfg0.N = PassA.scaleAt (VeA m) c 32 := by
  refine (datA m c).arrAt_eq_of_after_last 5 (⟨31, by decide⟩ : Fin cfg0.N) (by decide +kernel) _ fun j => ?_
  blk_simp
  exact (congrFun (PassA.after0_5 (VeA m) (fun _ => 0) c ⟨31, by decide⟩) _).trans (congrArg (PassA.scaleAt (VeA m) c 32) rfl)

/-- Column 0 of the first areas. -/
theorem colOf_apply (x : Vec Ideal S100x8 .i32) (q : Fin 100) : PassA.colOf (F := Ideal) x (ix2 q 0) = x (ix2 q 0) :=
  congrArg x (by funext a; match a with | ⟨0, _⟩ => exact Fin.ext (by simp [ValueKit.rect_emb_unit_val]) | ⟨1, _⟩ => rfl)

/-- Row 0 of the second areas. -/
theorem rowOf_apply (x : Vec Ideal S8x100 .i32) (r : Fin 100) : PassA.rowOf (F := Ideal) x (ix2 0 r) = x (ix2 0 r) :=
  congrArg x (by funext a; match a with | ⟨0, _⟩ => rfl | ⟨1, _⟩ => exact Fin.ext (by simp [ValueKit.rect_emb_unit_val]))

/-- The table of matches at an index. -/
theorem idx_apply (q k : Fin 100) (hk : IsArg (iou (mA m c) (mB m c) q) k) :
    PassA.idxAt (VeA m) c 32 (ix2 ⟨q.val, by omega⟩ 0) = BitVec.ofNat 32 k.val := by
  obtain ⟨h1, h2, h3⟩ := acc_all m c
  unfold PassA.idxAt
  generalize PassA.acc (VeA m) c 32 = s at h1 h2 h3 ⊢
  exact pay4_apply _ _ _ (mA m c) (mB m c) h1 (fun q => (colOf_apply _ q).trans (h2 q 0)) (fun r => (rowOf_apply _ r).trans (h3 0 r)) q k hk

/-- The table of scales at an index. -/
theorem scale_apply (q k : Fin 100) (hk : IsArg (iou (mA m c) (mB m c) q) k) :
    PassA.scaleAt (VeA m) c 32 (ix2 ⟨q.val, by omega⟩ 0) = if Ideal.ofBits .f32 0x3E4CCCCD#32 < iou (mA m c) (mB m c) q k then (2 : EReal)⁻¹ else 0 := by
  obtain ⟨h1, h2, h3⟩ := acc_all m c
  unfold PassA.scaleAt
  generalize PassA.acc (VeA m) c 32 = s at h1 h2 h3 ⊢
  exact pay5_apply _ _ _ (mA m c) (mB m c) h1 (fun q => (colOf_apply _ q).trans (h2 q 0)) (fun r => (rowOf_apply _ r).trans (h3 0 r)) q k hk

end Cert.KernelIdeal.Val

end

end
-- ==== Proof.KerOutB.lean ====
/-
  What the second kernel leaves, for a table of matches whose first hundred words are positions: each query's block
  merged with its match's.
-/
module

public import proofs.«01_k».proof.Proof.Run
public import Idealize.ShloMosaic.Lib.Pointwise
public import Idealize.ShloMosaic.Lib.Pipeline.ValueKit
public import Idealize.ShloMosaic.Lib.Pipeline.Covers

@[expose] public section

set_option maxRecDepth 16384

noncomputable section

namespace Cert.KernelIdeal.Val

open Idealize.ShloMosaic Cert.KernelIdeal
open Cert.KernelIdeal.Gen (k1_pay1)
open Cert.KernelIdeal.Facts Cert.KernelIdeal.Facts₀

/-- A query's word in a table. -/
abbrev word (q : Fin 100) : S128.Idx := Idealize.ShloMosaic.ix1 (⟨q.val, by omega⟩ : Fin 128)

/-- A grid coordinate as a word, read back. -/
theorem coord_toNat {n : ℕ} (x : Fin n) (h : n ≤ 2 ^ 32) : (BitVec.ofNat 32 x.val).toNat = x.val := by
  rw [BitVec.toNat_ofNat]; exact Nat.mod_eq_of_lt (by omega)

/-- A query's coordinate, cast to an index and read back. -/
theorem castPos : ∀ q : Fin 100, (Scalar.indexCast (BitVec.ofNat 32 q.val) : Index).toNat = q.val := by decide +kernel

/-- Where the word of a grid point stands in a table. -/
theorem wordPos (i : grid1.Coords) :
    (Rect.unit (s := S128) (k1_off1 i) S1.size (k1_off1_inb i)).emb (Shape.Idx.first (numel1_S1.symm ▸ Nat.one_pos)) = word (i 0) := by
  funext a
  match a with
  | ⟨0, _⟩ =>
    apply Fin.ext
    rw [ValueKit.rect_emb_unit_val]
    exact congrArg (· + 0) (castPos (i 0))

/-- The match of a grid point's query, as a block index. -/
theorem match_eq (pf : pre1.Contents (Elt Ideal)) (i : grid1.Coords) :
    cc1_transform_2 k1_off1_inb numel1_S1 pf i 0 = (pf 0 (word (i 0)) : BitVec 32).toNat := by
  have e : cc1_transform_2 k1_off1_inb numel1_S1 pf i 0 = (pf 0 ((Rect.unit (s := S128) (k1_off1 i) S1.size (k1_off1_inb i)).emb (Shape.Idx.first (numel1_S1.symm ▸ Nat.one_pos))) : BitVec 32).toNat := rfl
  rw [e, wordPos]

/-- A point's payload at an index. -/
theorem pay1B_apply (w : Elt Ideal .f32) (v v' v'' : Vec Ideal S1x512x128 .f32) (a : Fin 512) (b : Fin 128) :
    k1_pay1 (F := Ideal) w v v' v'' (ix3 0 a b) = ((v (ix3 0 a b) : EReal) + v' (ix3 0 a b)) * (v'' (ix3 0 a b) * w) := by
  pointwise [k1_pay1]

variable (a : (pcfg1 (F := Ideal)).Adm) (V : (c : Dev nD) → (b : Ref sig .tc) → Buf (Elt Ideal) ((c.tc : Thread nD τ).loc b)) (c : Dev nD)
variable (K : Fin 100 → Fin 100) (hK : ∀ q : Fin 100, (a.1 0 (word q) : BitVec 32) = BitVec.ofNat 32 (K q).val)

/-- The second kernel's proof data. -/
abbrev datB := PassB.dat (Ix := Unit) (U := UR sig nD τ) (Lvl := ℕ) a V (fun _ => 0) c

/-- Where the second kernel's windows stand at a grid point. -/
theorem index1 (t : Fin (cfg1 a).N) : ((cfg1 a).win 0).index t = ![0]
    ∧ ((cfg1 a).win 1).index t = ![(grid1.coords t 0).val, (grid1.coords t 1).val, 0]
    ∧ ((cfg1 a).win 3).index t = ![0, (grid1.coords t 1).val, 0]
    ∧ ((cfg1 a).win 4).index t = ![(grid1.coords t 0).val, (grid1.coords t 1).val, 0] := by
  have h0 := coord_toNat (grid1.coords t 0) (by decide)
  have h1 := coord_toNat (grid1.coords t 1) (by decide)
  refine ⟨rfl, ?_, ?_, ?_⟩
  · show cc1_transform_1 (grid1.coords t) = _
    unfold cc1_transform_1
    rw [← h0, ← h1]; simp
  · show cc1_transform_3 (grid1.coords t) = _
    unfold cc1_transform_3
    rw [← h1]; simp
  · show cc1_transform_4 (grid1.coords t) = _
    unfold cc1_transform_4
    rw [← h0, ← h1]; simp

include hK in
/-- Its matched window stands at the match. -/
theorem index1_2 (t : Fin (cfg1 a).N) : ((cfg1 a).win 2).index t = ![(K (grid1.coords t 0)).val, (grid1.coords t 1).val, 0] := by
  have h1 := coord_toNat (grid1.coords t 1) (by decide)
  have hk := coord_toNat (K (grid1.coords t 0)) (by decide)
  show cc1_transform_2 k1_off1_inb numel1_S1 a.1 (grid1.coords t) = _
  funext x
  match x with
  | ⟨0, _⟩ => exact (match_eq a.1 _).trans ((congrArg BitVec.toNat (hK _)).trans hk)
  | ⟨1, _⟩ => exact h1
  | ⟨2, _⟩ => rfl

section Blocks

variable (t : Fin (cfg1 a).N) (x : Fin 512) (l : Fin 128)

/-- A row of a block, in the array. -/
abbrev row : Fin 2048 := ⟨512 * (grid1.coords t 1).val + x.val, by have h : (grid1.coords t 1).val < 4 := (grid1.coords t 1).isLt; omega⟩

theorem blkB0 : PassB.wordAt (PassB.iblk a V c 0 t) (grid1.coords t) = V c main_v18 (word (grid1.coords t 0)) := by
  unfold PassB.wordAt
  rw [wordPos]
  blk_ext [PassB.iblk, (index1 a t).1]
theorem blkB1 : PassB.iblk a V c 1 t (ix3 0 x l) = V c main_v1 (ix3 (grid1.coords t 0) (row a t x) l) := by
  blk_ext [PassB.iblk, (index1 a t).2.1]
include hK in
theorem blkB2 : PassB.iblk a V c 2 t (ix3 0 x l) = V c main_v3 (ix3 (K (grid1.coords t 0)) (row a t x) l) := by
  blk_ext [PassB.iblk, index1_2 a K hK t]
theorem blkB3 : PassB.iblk a V c 3 t (ix3 0 x l) = V c main_v16_0 (ix3 0 (row a t x) l) := by
  blk_ext [PassB.iblk, (index1 a t).2.2.1]

end Blocks

/-- The merged masks as an array. -/
def mergedArr (A B : Vec Ideal S100x2048x128 .f32) (M : Vec Ideal S1x2048x128 .f32) (S : Vec Ideal S128 .f32) : Vec Ideal S100x2048x128 .f32 := fun i =>
  ((A (ix3 (n0 := 100) (n1 := 2048) (n2 := 128) (i 0) (i 1) (i 2)) : EReal) + B (ix3 (n0 := 100) (n1 := 2048) (n2 := 128) (K (i 0)) (i 1) (i 2)))
    * (M (ix3 (n0 := 1) (n1 := 2048) (n2 := 128) 0 (i 1) (i 2)) * S (word (i 0)))

include hK in
/-- A point's block of the output, at an index. -/
theorem outAt_apply (t : Fin (cfg1 a).N) (x : Fin 512) (l : Fin 128) :
    PassB.outAt a V c t (ix3 0 x l) = mergedArr K (V c main_v1) (V c main_v3) (V c main_v16_0) (V c main_v18) (ix3 (grid1.coords t 0) (row a t x) l) := by
  unfold PassB.outAt
  exact (pay1B_apply _ _ _ _ x l).trans (congrArg₂ (fun p q : EReal => p * q) (congrArg₂ (fun p q : EReal => p + q) (blkB1 a V c t x l) (blkB2 a V c K hK t x l))
    (congrArg₂ (fun p q : EReal => p * q) (blkB3 a V c t x l) (blkB0 a V c t)))

/-- The second kernel's blocks cover its output. -/
theorem covers4 : ((cfg1 a).win 4).Covers :=
  ((cfg1 a).win 4).covers_of_indexMap_surj rfl (by decide : ∀ x : Fin 3, 0 < S1x512x128.size x) fun β => by
    have b0 : (β (0 : Fin 3)).val < 100 := lt_of_lt_of_eq (β (0 : Fin 3)).isLt (show ((cfg1 a).win 4).nblk (0 : Fin 3) = 100 from (show (S100x2048x128.size 0 + S1x512x128.size 0 - 1) / S1x512x128.size 0 = 100 by decide))
    have b1 : (β (1 : Fin 3)).val < 4 := lt_of_lt_of_eq (β (1 : Fin 3)).isLt (show ((cfg1 a).win 4).nblk (1 : Fin 3) = 4 from (show (S100x2048x128.size 1 + S1x512x128.size 1 - 1) / S1x512x128.size 1 = 4 by decide))
    have b2 : (β (2 : Fin 3)).val < 1 := lt_of_lt_of_eq (β (2 : Fin 3)).isLt (show ((cfg1 a).win 4).nblk (2 : Fin 3) = 1 from (show (S100x2048x128.size 2 + S1x512x128.size 2 - 1) / S1x512x128.size 2 = 1 by decide))
    refine ⟨fun | ⟨0, _⟩ => ⟨(β (0 : Fin 3)).val, b0⟩ | ⟨1, _⟩ => ⟨(β (1 : Fin 3)).val, b1⟩, fun x => ?_⟩
    match x with
    | ⟨0, _⟩ => exact coord_toNat (⟨(β (0 : Fin 3)).val, b0⟩ : Fin 100) (by decide)
    | ⟨1, _⟩ => exact coord_toNat (⟨(β (1 : Fin 3)).val, b1⟩ : Fin 4) (by decide)
    | ⟨2, _⟩ => exact (Nat.lt_one_iff.mp b2).symm

include hK in
/-- What the second kernel leaves. -/
theorem arr_out : (datB a V c).arrAt 4 (cfg1 a).N = mergedArr K (V c main_v1) (V c main_v3) (V c main_v16_0) (V c main_v18) := by
  refine (datB a V c).arrAt_eq_of_covers 4 _ (covers4 a) fun t hf y => ?_
  have hy : (y : S1x512x128.Idx) = ix3 0 (y (1 : Fin 3)) (y (2 : Fin 3)) := by
    funext a; match a with | ⟨0, _⟩ => exact Subsingleton.elim (α := Fin 1) _ _ | ⟨1, _⟩ => rfl | ⟨2, _⟩ => rfl
  have e : (((cfg1 a).win 4).blk t).view.emb y = ix3 (grid1.coords t 0) (row a t (y (1 : Fin 3))) (y (2 : Fin 3)) := by
    blk_ext [(index1 a t).2.2.2]
  refine Eq.trans ?_ (congrArg (mergedArr K (V c main_v1) (V c main_v3) (V c main_v16_0) (V c main_v18)) e).symm
  refine (cast_eq _ _).trans ?_
  exact (congrFun (PassB.after1_4 a V (fun _ => 0) c t) _).trans ((congrArg (PassB.outAt a V c t) hy).trans (outAt_apply a V c K hK t _ _))

end Cert.KernelIdeal.Val

end

end
-- ==== Proof.KerVal.lean ====
/-
  The whole program's result: the contents its two kernels leave, named in the program's order, and the result at an
  index.
-/
module

public import proofs.«01_k».proof.Proof.KerOutA
public import proofs.«01_k».proof.Proof.KerOutB

@[expose] public section

set_option maxRecDepth 16384

noncomputable section

namespace Cert.KernelIdeal.Val

open Idealize.ShloMosaic Cert.KernelIdeal Cert.Math
open Cert.KernelIdeal.Gen (V0 V1 V2 V3 V4 V5 Outs hostOps1 hostOps1_W V3_of V2_of)
open Cert.KernelIdeal.Whole (VeA VeB V2_mask V2_idx V2_scale Leaves)
open Cert.KernelIdeal.Facts Cert.KernelIdeal.Facts₀

variable (m : (ℓ : Loc nD τ sig) → Buf (Elt Ideal) ℓ) (c : Dev nD)

/-- The match of each query. -/
def best (q : Fin 100) : Fin 100 := (exists_isArg (by decide) (by decide) (iou (mA m c) (mB m c) q)).choose

theorem best_spec (q : Fin 100) : IsArg (iou (mA m c) (mB m c) q) (best m c q) := (exists_isArg (by decide) (by decide) (iou (mA m c) (mB m c) q)).choose_spec

/-! ## The contents the kernels leave -/

/-- What the first kernel leaves in its outputs. -/
def outsA : Outs (F := Ideal) := fun _ =>
  Function.update (Function.update (Function.update (fun r c => V1 m c (Proc.devRef .tc r)) main_v16_0 fun c => (datA m c).arrAt 3 cfg0.N)
    main_v16_1 fun c => (datA m c).arrAt 4 cfg0.N) main_v16_2 fun c => (datA m c).arrAt 5 cfg0.N

theorem outsA_mask (j : ℕ) : outsA m j main_v16_0 c = (datA m c).arrAt 3 cfg0.N := by
  unfold outsA
  rw [Function.update_of_ne (by decide), Function.update_of_ne (by decide), Function.update_self]
theorem outsA_idx (j : ℕ) : outsA m j main_v16_1 c = (datA m c).arrAt 4 cfg0.N := by
  unfold outsA
  rw [Function.update_of_ne (by decide), Function.update_self]
theorem outsA_scale (j : ℕ) : outsA m j main_v16_2 c = (datA m c).arrAt 5 cfg0.N := by
  unfold outsA
  rw [Function.update_self]

section Before

variable (outs : Outs (F := Ideal)) (h0 : outs 2 main_v16_0 c = (datA m c).arrAt 3 cfg0.N) (h1 : outs 2 main_v16_1 c = (datA m c).arrAt 4 cfg0.N)
  (h2 : outs 2 main_v16_2 c = (datA m c).arrAt 5 cfg0.N)

/-- The second kernel finds the first masks laid out, -/
theorem VeB_v1 : VeB m outs c main_v1 = flat (m ((c.tc : Thread nD τ).loc main_arg2)) :=
  (V3_of m outs c main_v1 (by decide)).trans ((V2_of m outs c main_v1 (by decide)).trans (V1_v1 m c))
/-- the second masks laid out, -/
theorem VeB_v3 : VeB m outs c main_v3 = flat (m ((c.tc : Thread nD τ).loc main_arg3)) :=
  (V3_of m outs c main_v3 (by decide)).trans ((V2_of m outs c main_v3 (by decide)).trans (V1_v3 m c))
include h0 in
/-- the first kernel's mask, -/
theorem VeB_mask : VeB m outs c main_v16_0 = maskArr m c :=
  (V3_of m outs c main_v16_0 (by decide)).trans ((V2_mask m outs c).trans (h0.trans (arr_mask m c)))

/-- A flattened table at a query. -/
theorem flatTable (x : Vec Ideal S128x1 .i32) (q : Fin 100) : shapeCast S128 x shapeCasts_S128x1_S128 (word q) = x (ix2 ⟨q.val, by omega⟩ 0) := by
  pointwise []

/-- The same of words of another type. -/
theorem flatTable' (x : Vec Ideal S128x1 .f32) (q : Fin 100) : shapeCast S128 x shapeCasts_S128x1_S128 (word q) = x (ix2 ⟨q.val, by omega⟩ 0) := by
  pointwise []

include h1 in
/-- the table of matches, -/
theorem VeB_idx (q : Fin 100) : (VeB m outs c main_v17 (word q) : BitVec 32) = BitVec.ofNat 32 (best m c q).val := by
  have e : VeB m outs c main_v17 = shapeCast S128 (PassA.idxAt (VeA m) c 32) shapeCasts_S128x1_S128 :=
    (V3_v17 m outs c).trans (congrArg (fun x => shapeCast S128 x shapeCasts_S128x1_S128) (h1.trans (arr_idx m c)))
  exact (congrFun e _).trans ((flatTable _ q).trans (idx_apply m c q _ (best_spec m c q)))
include h2 in
/-- and the table of scales. -/
theorem VeB_scale (q : Fin 100) :
    VeB m outs c main_v18 (word q) = if Ideal.ofBits .f32 0x3E4CCCCD#32 < iou (mA m c) (mB m c) q (best m c q) then (2 : EReal)⁻¹ else 0 := by
  have e : VeB m outs c main_v18 = shapeCast S128 (PassA.scaleAt (VeA m) c 32) shapeCasts_S128x1_S128 :=
    (V3_v18 m outs c).trans (congrArg (fun x => shapeCast S128 x shapeCasts_S128x1_S128) (h2.trans (arr_scale m c)))
  exact (congrFun e _).trans ((flatTable' _ q).trans (scale_apply m c q _ (best_spec m c q)))

end Before

/-- A table whose words are positions keeps every block inside its array. -/
theorem ok_of (pf : pre1.Contents (Elt Ideal)) (K : Fin 100 → Fin 100) (hK : ∀ q : Fin 100, (pf 0 (word q) : BitVec 32) = BitVec.ofNat 32 (K q).val) : ok1 pf := by
  intro i
  have h0 : cc1_transform_2 k1_off1_inb numel1_S1 pf i 0 = (K (i 0)).val := (match_eq pf i).trans ((congrArg BitVec.toNat (hK _)).trans (coord_toNat _ (by decide)))
  have h1 : cc1_transform_2 k1_off1_inb numel1_S1 pf i 1 = (i 1).val := coord_toNat (i 1) (by decide)
  have h2 : cc1_transform_2 k1_off1_inb numel1_S1 pf i 2 = 0 := rfl
  refine ⟨fun x => ?_, Or.inl rfl⟩
  match x with
  | ⟨0, _⟩ =>
    show (cc1_transform_2 k1_off1_inb numel1_S1 pf i 0 + 1) * 1 ≤ 100
    rw [h0]; have := (K (i 0)).isLt; omega
  | ⟨1, _⟩ =>
    show (cc1_transform_2 k1_off1_inb numel1_S1 pf i 1 + 1) * 512 ≤ 2048
    rw [h1]; have h : (i 1).val < 4 := (i 1).isLt; omega
  | ⟨2, _⟩ =>
    show (cc1_transform_2 k1_off1_inb numel1_S1 pf i 2 + 1) * 128 ≤ 128
    rw [h2]

/-- The one core. -/
abbrev c0 : Dev nD := 0

/-- The table of matches the second kernel is entered with. -/
def admB : (pcfg1 (F := Ideal)).Adm :=
  ⟨fun k => VeB m (outsA m) c0 (pre1.ref k), ok_of _ (best m c0) fun q => VeB_idx m c0 (outsA m) (outsA_idx m c0 2) q⟩

/-- The tables of the two kernels: the first has none. -/
def adm : (p : Fin 2) → (pcfgs (F := Ideal) p).Adm
  | ⟨0, _⟩ => cfg0.toPCfg_adm
  | ⟨1, _⟩ => admB m
  | ⟨_ + 2, h⟩ => absurd h (Nat.not_lt.2 (Nat.le_add_left _ _))

/-- What the second kernel leaves in its output. -/
def outB (c : Dev nD) : Buf (Elt Ideal) ((c.tc : Thread nD τ).loc main_v19) := (datB (admB m) (VeB m (outsA m)) c).arrAt 4 (cfg1 (admB m)).N

/-- What the two kernels leave, in the program's order. -/
def outs : Outs (F := Ideal) := fun j =>
  if j = 4 then Function.update (outsA m 4) main_v19 (outB m) else outsA m j

theorem outs_two : outs m 2 = outsA m 2 := if_neg (by decide)

theorem V3_outs : V3 m (outs m) c = V3 m (outsA m) c := by
  have e : V2 m (outs m) c = V2 m (outsA m) c := by simp only [V2, outs_two]
  show StableHlo.after hostOps1 (V2 m (outs m) c) = StableHlo.after hostOps1 (V2 m (outsA m) c)
  rw [e]

theorem VeB_outs : VeB m (outs m) = VeB m (outsA m) := funext fun c => funext fun b => congrFun (V3_outs m c) _

theorem outs_out : outs m 4 main_v19 c = outB m c := by
  unfold outs
  rw [if_pos rfl, Function.update_self]

/-- These are what the kernels' proof data leave. -/
theorem leaves : Leaves m (outs m) (adm m) where
  mask c := (congrFun (congrFun (outs_two m) _) c).trans (outsA_mask m c 2)
  idx c := (congrFun (congrFun (outs_two m) _) c).trans (outsA_idx m c 2)
  scale c := (congrFun (congrFun (outs_two m) _) c).trans (outsA_scale m c 2)
  out c := by rw [VeB_outs]; exact outs_out m c
  table c k := by
    rw [VeB_outs, show c = c0 from Subsingleton.elim _ _]; rfl

/-! ## The result -/

/-- Two masks added and scaled, or dropped: the kernel's way and the reference's agree. -/
theorem merge_eq (p : Prop) [Decidable p] (x y f : EReal) :
    (x + y) * (f * (if p then (2 : EReal)⁻¹ else 0)) = if p then Ideal.div (x + y) 2 * f else 0 := by
  by_cases h : p
  · rw [if_pos h, if_pos h, div_two, mul_assoc, mul_comm f]
  · rw [if_neg h, if_neg h, mul_zero, mul_zero]

/-- The second kernel's output at an index. -/
theorem outB_apply (q : Fin 100) (u : Fin 2048) (l : Fin 128) :
    outB m c0 (ix3 q u l) = ((flat (m ((c0.tc : Thread nD τ).loc main_arg2)) (ix3 q u l) : EReal) + flat (m ((c0.tc : Thread nD τ).loc main_arg3)) (ix3 (best m c0 q) u l))
      * (maskArr m c0 (ix3 0 u l) * if Ideal.ofBits .f32 0x3E4CCCCD#32 < iou (mA m c0) (mB m c0) q (best m c0 q) then (2 : EReal)⁻¹ else 0) := by
  have e := congrFun (arr_out (admB m) (VeB m (outsA m)) c0 (best m c0) fun q => VeB_idx m c0 (outsA m) (outsA_idx m c0 2) q) (ix3 q u l)
  refine e.trans ?_
  exact congrArg₂ (fun p q : EReal => p * q) (congrArg₂ (fun p q : EReal => p + q) (congrFun (VeB_v1 m c0 (outsA m)) _) (congrFun (VeB_v3 m c0 (outsA m)) _))
    (congrArg₂ (fun p q : EReal => p * q) (congrFun (VeB_mask m c0 (outsA m) (outsA_mask m c0 2)) _) (VeB_scale m c0 (outsA m) (outsA_scale m c0 2) q))

/-- The result of the program at an index: the merged mask of the query with its match. -/
theorem result_apply (q : Fin 100) (x y : Fin 128) (z : Fin 16) :
    V5 m (outs m) c (Proc.devRef .tc main_v21) (ix4 q x y z) = merged (mA m c) (mB m c) (mS m c) q (best m c q) x y z := by
  have hc : c = c0 := Subsingleton.elim _ _
  subst hc
  have hx : (⟨(x.val * 16 + z.val) / 16, by omega⟩ : Fin 128) = x := Fin.ext (by dsimp only; omega)
  have hz : (⟨(x.val * 16 + z.val) % 16, by omega⟩ : Fin 16) = z := Fin.ext (by dsimp only; omega)
  refine ((congrFun ((V5_v21 m (outs m) c0).trans (congrArg unflat (outs_out m c0))) _).trans (unflat_apply _ q x y z)).trans ?_
  refine (outB_apply m q _ y).trans ?_
  rw [flat_apply, flat_apply, maskArr_apply, merge_eq]
  dsimp only
  rw [hx, hz]
  rfl

end Cert.KernelIdeal.Val

end

end
-- ==== Proof.RefLine.lean ====
/-
  The reference as a straight line of host operations, cut into the pieces the mathematics has, and its run: every
  execution ends with each buffer holding what the operations leave there and with every counter at zero.
-/
module

public import proofs.«01_k».proof.ReferenceIdeal
public import proofs.«01_k».proof.Proof.Gen.ReferenceIdeal
public import Idealize.ShloMosaic.Lib.StableHlo.RunHlo
public import Idealize.ShloMosaic.Lib.StableHlo.RunRead
public import Idealize.ShloMosaic.Lib.Quiescent
public import Idealize.ShloMosaic.Lib.Claim

@[expose] public section

noncomputable section

open Idealize.ShloMosaic Idealize.ShloMosaic.TcCoe Idealize.SL.Sem
open Idealize.ShloMosaic.StableHlo (seq seqK after)

namespace Cert.ReferenceIdeal.Line

open Cert.ReferenceIdeal Cert.ReferenceIdeal.Facts Cert.ReferenceIdeal.Facts₀

variable {F : FTy → Type} [FloatOps F]

/-- The intersection-over-union table: thresholding both masks, their product, the two counts, the quotient. -/
def opsIou : List (HloOp τ sig (Elt F)) :=
  [StableHlo.reshape main_arg2 main_v0 (rfl : (.f32 : EltTy) = .f32) shapeCasts_S100x128x128x16_S100x262144,
   StableHlo.nullary main_cst (constant S_ .f32 0x3F000000#32),
   StableHlo.unary main_cst main_v1 (broadcastInDim S100x262144 ![] bcast_S_S100x262144 : (⟨S_, .f32⟩ : BufTy).Contents (Elt F) → (⟨S100x262144, .f32⟩ : BufTy).Contents (Elt F)),
   StableHlo.binary main_v0 main_v1 main_v2 (cmpf .ogt : (⟨S100x262144, .f32⟩ : BufTy).Contents (Elt F) → (⟨S100x262144, .f32⟩ : BufTy).Contents (Elt F) → (⟨S100x262144, .i1⟩ : BufTy).Contents (Elt F)),
   StableHlo.unary main_v2 main_v3 (uitofp .f32 : (⟨S100x262144, .i1⟩ : BufTy).Contents (Elt F) → (⟨S100x262144, .f32⟩ : BufTy).Contents (Elt F)),
   StableHlo.reshape main_arg3 main_v4 (rfl : (.f32 : EltTy) = .f32) shapeCasts_S100x128x128x16_S100x262144,
   StableHlo.nullary main_cst_0 (constant S_ .f32 0x3F000000#32),
   StableHlo.unary main_cst_0 main_v5 (broadcastInDim S100x262144 ![] bcast_S_S100x262144 : (⟨S_, .f32⟩ : BufTy).Contents (Elt F) → (⟨S100x262144, .f32⟩ : BufTy).Contents (Elt F)),
   StableHlo.binary main_v4 main_v5 main_v6 (cmpf .ogt : (⟨S100x262144, .f32⟩ : BufTy).Contents (Elt F) → (⟨S100x262144, .f32⟩ : BufTy).Contents (Elt F) → (⟨S100x262144, .i1⟩ : BufTy).Contents (Elt F)),
   StableHlo.unary main_v6 main_v7 (uitofp .f32 : (⟨S100x262144, .i1⟩ : BufTy).Contents (Elt F) → (⟨S100x262144, .f32⟩ : BufTy).Contents (Elt F)),
   StableHlo.unary main_v7 main_v8 ((transpose S262144x100 [1, 0] · transposes_S100x262144_S262144x100_1_0) : (⟨S100x262144, .f32⟩ : BufTy).Contents (Elt F) → (⟨S262144x100, .f32⟩ : BufTy).Contents (Elt F)),
   StableHlo.binary main_v3 main_v8 main_v9 ((fun l r => Host.dotGeneral dot_S100x262144_S262144x100_S100x100_1_0_0_1_n_n none l r) : (⟨S100x262144, .f32⟩ : BufTy).Contents (Elt F) → (⟨S262144x100, .f32⟩ : BufTy).Contents (Elt F) → (⟨S100x100, .f32⟩ : BufTy).Contents (Elt F)),
   StableHlo.nullary main_cst_1 (constant S_ .f32 0x00000000#32),
   StableHlo.binary main_v3 main_cst_1 main_v10 ((fun x v => Host.reduceAdd x v reducesTo_S100x262144_S100_d1 h_S_) : (⟨S100x262144, .f32⟩ : BufTy).Contents (Elt F) → (⟨S_, .f32⟩ : BufTy).Contents (Elt F) → (⟨S100, .f32⟩ : BufTy).Contents (Elt F)),
   StableHlo.unary main_v10 main_v11 (broadcastInDim S100x1 ![0] bcast_S100_S100x1_0 : (⟨S100, .f32⟩ : BufTy).Contents (Elt F) → (⟨S100x1, .f32⟩ : BufTy).Contents (Elt F)),
   StableHlo.nullary main_cst_2 (constant S_ .f32 0x00000000#32),
   StableHlo.binary main_v7 main_cst_2 main_v12 ((fun x v => Host.reduceAdd x v reducesTo_S100x262144_S100_d1 h_S_) : (⟨S100x262144, .f32⟩ : BufTy).Contents (Elt F) → (⟨S_, .f32⟩ : BufTy).Contents (Elt F) → (⟨S100, .f32⟩ : BufTy).Contents (Elt F)),
   StableHlo.unary main_v12 main_v13 (broadcastInDim S1x100 ![1] bcast_S100_S1x100_1 : (⟨S100, .f32⟩ : BufTy).Contents (Elt F) → (⟨S1x100, .f32⟩ : BufTy).Contents (Elt F)),
   StableHlo.unary main_v11 main_v14 (broadcastInDim S100x100 ![0, 1] bcast_S100x1_S100x100_0_1 : (⟨S100x1, .f32⟩ : BufTy).Contents (Elt F) → (⟨S100x100, .f32⟩ : BufTy).Contents (Elt F)),
   StableHlo.unary main_v13 main_v15 (broadcastInDim S100x100 ![0, 1] bcast_S1x100_S100x100_0_1 : (⟨S1x100, .f32⟩ : BufTy).Contents (Elt F) → (⟨S100x100, .f32⟩ : BufTy).Contents (Elt F)),
   StableHlo.binary main_v14 main_v15 main_v16 (addf : (⟨S100x100, .f32⟩ : BufTy).Contents (Elt F) → (⟨S100x100, .f32⟩ : BufTy).Contents (Elt F) → (⟨S100x100, .f32⟩ : BufTy).Contents (Elt F)),
   StableHlo.binary main_v16 main_v9 main_v17 (subf : (⟨S100x100, .f32⟩ : BufTy).Contents (Elt F) → (⟨S100x100, .f32⟩ : BufTy).Contents (Elt F) → (⟨S100x100, .f32⟩ : BufTy).Contents (Elt F)),
   StableHlo.nullary main_cst_3 (constant S_ .f32 0x3F800000#32),
   StableHlo.unary main_cst_3 main_v18 (broadcastInDim S100x100 ![] bcast_S_S100x100 : (⟨S_, .f32⟩ : BufTy).Contents (Elt F) → (⟨S100x100, .f32⟩ : BufTy).Contents (Elt F)),
   StableHlo.binary main_v17 main_v18 main_v19 (maximumf : (⟨S100x100, .f32⟩ : BufTy).Contents (Elt F) → (⟨S100x100, .f32⟩ : BufTy).Contents (Elt F) → (⟨S100x100, .f32⟩ : BufTy).Contents (Elt F)),
   StableHlo.binary main_v9 main_v19 main_v20 (Host.divf : (⟨S100x100, .f32⟩ : BufTy).Contents (Elt F) → (⟨S100x100, .f32⟩ : BufTy).Contents (Elt F) → (⟨S100x100, .f32⟩ : BufTy).Contents (Elt F))]

/-- The first call: the best second-frame query of each first-frame query. -/
def opsArgmax : List (HloOp τ sig (Elt F)) :=
  [StableHlo.nullary main_call0_v0 (iotaInDim S100x100 32 1),
   StableHlo.nullary main_call0_cst (constant S_ .f32 0xFF800000#32),
   StableHlo.nullary main_call0_c (constantI S_ 32 0#32),
   StableHlo.quaternary main_v20 main_call0_v0 main_call0_cst main_call0_c main_call0_v1_0 ((fun x y u v j => (Host.argReduce reducer_argmax_f32_i32 x y u v reducesTo_S100x100_S100_d1 h_S_ j).1) : (⟨S100x100, .f32⟩ : BufTy).Contents (Elt F) → (⟨S100x100, .i32⟩ : BufTy).Contents (Elt F) → (⟨S_, .f32⟩ : BufTy).Contents (Elt F) → (⟨S_, .i32⟩ : BufTy).Contents (Elt F) → (⟨S100, .f32⟩ : BufTy).Contents (Elt F)),
   StableHlo.quaternary main_v20 main_call0_v0 main_call0_cst main_call0_c main_v21 ((fun x y u v j => (Host.argReduce reducer_argmax_f32_i32 x y u v reducesTo_S100x100_S100_d1 h_S_ j).2) : (⟨S100x100, .f32⟩ : BufTy).Contents (Elt F) → (⟨S100x100, .i32⟩ : BufTy).Contents (Elt F) → (⟨S_, .f32⟩ : BufTy).Contents (Elt F) → (⟨S_, .i32⟩ : BufTy).Contents (Elt F) → (⟨S100, .i32⟩ : BufTy).Contents (Elt F))]

/-- The best value of each row and its comparison with the threshold. -/
def opsMatch : List (HloOp τ sig (Elt F)) :=
  [StableHlo.nullary main_cst_4 (constant S_ .f32 0xFF800000#32),
   StableHlo.binary main_v20 main_cst_4 main_v22 ((fun x v => Host.reduce FloatOps.maximumf x v reducesTo_S100x100_S100_d1 h_S_) : (⟨S100x100, .f32⟩ : BufTy).Contents (Elt F) → (⟨S_, .f32⟩ : BufTy).Contents (Elt F) → (⟨S100, .f32⟩ : BufTy).Contents (Elt F)),
   StableHlo.nullary main_cst_5 (constant S_ .f32 0x3E4CCCCD#32),
   StableHlo.unary main_cst_5 main_v23 (broadcastInDim S100 ![] bcast_S_S100 : (⟨S_, .f32⟩ : BufTy).Contents (Elt F) → (⟨S100, .f32⟩ : BufTy).Contents (Elt F)),
   StableHlo.binary main_v22 main_v23 main_v24 (cmpf .ogt : (⟨S100, .f32⟩ : BufTy).Contents (Elt F) → (⟨S100, .f32⟩ : BufTy).Contents (Elt F) → (⟨S100, .i1⟩ : BufTy).Contents (Elt F))]

/-- The gather of the query embeddings (no claimed result reads it). -/
def opsTakeQ : List (HloOp τ sig (Elt F)) :=
  [StableHlo.nullary main_call1_c (constantI S_ 32 0#32),
   StableHlo.unary main_call1_c main_call1_v0 ((broadcastInDim S100 ![] bcast_S_S100) : (⟨S_, .i32⟩ : BufTy).Contents (Elt F) → (⟨S100, .i32⟩ : BufTy).Contents (Elt F)),
   StableHlo.binary main_v21 main_call1_v0 main_call1_v1 ((cmpi .slt) : (⟨S100, .i32⟩ : BufTy).Contents (Elt F) → (⟨S100, .i32⟩ : BufTy).Contents (Elt F) → (⟨S100, .i1⟩ : BufTy).Contents (Elt F)),
   StableHlo.nullary main_call1_c_0 (constantI S_ 32 100#32),
   StableHlo.unary main_call1_c_0 main_call1_v2 ((broadcastInDim S100 ![] bcast_S_S100) : (⟨S_, .i32⟩ : BufTy).Contents (Elt F) → (⟨S100, .i32⟩ : BufTy).Contents (Elt F)),
   StableHlo.binary main_v21 main_call1_v2 main_call1_v3 (addi : (⟨S100, .i32⟩ : BufTy).Contents (Elt F) → (⟨S100, .i32⟩ : BufTy).Contents (Elt F) → (⟨S100, .i32⟩ : BufTy).Contents (Elt F)),
   StableHlo.ternary main_call1_v1 main_call1_v3 main_v21 main_call1_v4 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
   StableHlo.unary main_call1_v4 main_call1_v5 ((broadcastInDim S100x1 ![0] bcast_S100_S100x1_0) : (⟨S100, .i32⟩ : BufTy).Contents (Elt F) → (⟨S100x1, .i32⟩ : BufTy).Contents (Elt F)),
   StableHlo.nullary main_call1_c_1 (constantI S1 32 99#32),
   StableHlo.nullary main_call1_c_2 (constantI S_ 32 0#32),
   StableHlo.unary main_call1_c_2 main_call1_v6 ((broadcastInDim S100x1 ![] bcast_S_S100x1) : (⟨S_, .i32⟩ : BufTy).Contents (Elt F) → (⟨S100x1, .i32⟩ : BufTy).Contents (Elt F)),
   StableHlo.binary main_call1_v5 main_call1_v6 main_call1_v7 ((cmpi .sge) : (⟨S100x1, .i32⟩ : BufTy).Contents (Elt F) → (⟨S100x1, .i32⟩ : BufTy).Contents (Elt F) → (⟨S100x1, .i1⟩ : BufTy).Contents (Elt F)),
   StableHlo.unary main_call1_c_1 main_call1_v8 ((broadcastInDim S1x1 ![1] bcast_S1_S1x1_1) : (⟨S1, .i32⟩ : BufTy).Contents (Elt F) → (⟨S1x1, .i32⟩ : BufTy).Contents (Elt F)),
   StableHlo.unary main_call1_v8 main_call1_v9 ((broadcastInDim S100x1 ![0, 1] bcast_S1x1_S100x1_0_1) : (⟨S1x1, .i32⟩ : BufTy).Contents (Elt F) → (⟨S100x1, .i32⟩ : BufTy).Contents (Elt F)),
   StableHlo.binary main_call1_v5 main_call1_v9 main_call1_v10 ((cmpi .sle) : (⟨S100x1, .i32⟩ : BufTy).Contents (Elt F) → (⟨S100x1, .i32⟩ : BufTy).Contents (Elt F) → (⟨S100x1, .i1⟩ : BufTy).Contents (Elt F)),
   StableHlo.binary main_call1_v7 main_call1_v10 main_call1_v11 (andi : (⟨S100x1, .i1⟩ : BufTy).Contents (Elt F) → (⟨S100x1, .i1⟩ : BufTy).Contents (Elt F) → (⟨S100x1, .i1⟩ : BufTy).Contents (Elt F)),
   StableHlo.nullary main_call1_c_3 (constantI S_ 1 1#1),
   StableHlo.binary main_call1_v11 main_call1_c_3 main_call1_v12 ((fun x v => Host.reduce IntOp.andi x v reducesTo_S100x1_S100_d1 h_S_) : (⟨S100x1, .i1⟩ : BufTy).Contents (Elt F) → (⟨S_, .i1⟩ : BufTy).Contents (Elt F) → (⟨S100, .i1⟩ : BufTy).Contents (Elt F)),
   StableHlo.binary main_arg1 main_call1_v5 main_call1_v13 ((fun x i => Host.gather gather_S1x100x21_S100x1_S1x100x21_02_1_n_n_1_1_1121 x i) : (⟨S1x100x21, .f32⟩ : BufTy).Contents (Elt F) → (⟨S100x1, .i32⟩ : BufTy).Contents (Elt F) → (⟨S1x100x21, .f32⟩ : BufTy).Contents (Elt F)),
   StableHlo.unary main_call1_v12 main_call1_v14 ((broadcastInDim S1x100x21 ![1] bcast_S100_S1x100x21_1) : (⟨S100, .i1⟩ : BufTy).Contents (Elt F) → (⟨S1x100x21, .i1⟩ : BufTy).Contents (Elt F)),
   StableHlo.nullary main_call1_cst (constant S_ .f32 0x7FC00000#32),
   StableHlo.unary main_call1_cst main_call1_v15 ((broadcastInDim S1x100x21 ![] bcast_S_S1x100x21) : (⟨S_, .f32⟩ : BufTy).Contents (Elt F) → (⟨S1x100x21, .f32⟩ : BufTy).Contents (Elt F)),
   StableHlo.ternary main_call1_v14 main_call1_v13 main_call1_v15 main_v25 (select : (⟨S1x100x21, .i1⟩ : BufTy).Contents (Elt F) → (⟨S1x100x21, .f32⟩ : BufTy).Contents (Elt F) → (⟨S1x100x21, .f32⟩ : BufTy).Contents (Elt F) → (⟨S1x100x21, .f32⟩ : BufTy).Contents (Elt F))]

/-- The gather of the matched second-frame masks. -/
def opsTake : List (HloOp τ sig (Elt F)) :=
  [StableHlo.nullary main_call2_c (constantI S_ 32 0#32),
   StableHlo.unary main_call2_c main_call2_v0 ((broadcastInDim S100 ![] bcast_S_S100) : (⟨S_, .i32⟩ : BufTy).Contents (Elt F) → (⟨S100, .i32⟩ : BufTy).Contents (Elt F)),
   StableHlo.binary main_v21 main_call2_v0 main_call2_v1 ((cmpi .slt) : (⟨S100, .i32⟩ : BufTy).Contents (Elt F) → (⟨S100, .i32⟩ : BufTy).Contents (Elt F) → (⟨S100, .i1⟩ : BufTy).Contents (Elt F)),
   StableHlo.nullary main_call2_c_0 (constantI S_ 32 100#32),
   StableHlo.unary main_call2_c_0 main_call2_v2 ((broadcastInDim S100 ![] bcast_S_S100) : (⟨S_, .i32⟩ : BufTy).Contents (Elt F) → (⟨S100, .i32⟩ : BufTy).Contents (Elt F)),
   StableHlo.binary main_v21 main_call2_v2 main_call2_v3 (addi : (⟨S100, .i32⟩ : BufTy).Contents (Elt F) → (⟨S100, .i32⟩ : BufTy).Contents (Elt F) → (⟨S100, .i32⟩ : BufTy).Contents (Elt F)),
   StableHlo.ternary main_call2_v1 main_call2_v3 main_v21 main_call2_v4 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
   StableHlo.unary main_call2_v4 main_call2_v5 ((broadcastInDim S100x1 ![0] bcast_S100_S100x1_0) : (⟨S100, .i32⟩ : BufTy).Contents (Elt F) → (⟨S100x1, .i32⟩ : BufTy).Contents (Elt F)),
   StableHlo.nullary main_call2_c_1 (constantI S1 32 99#32),
   StableHlo.nullary main_call2_c_2 (constantI S_ 32 0#32),
   StableHlo.unary main_call2_c_2 main_call2_v6 ((broadcastInDim S100x1 ![] bcast_S_S100x1) : (⟨S_, .i32⟩ : BufTy).Contents (Elt F) → (⟨S100x1, .i32⟩ : BufTy).Contents (Elt F)),
   StableHlo.binary main_call2_v5 main_call2_v6 main_call2_v7 ((cmpi .sge) : (⟨S100x1, .i32⟩ : BufTy).Contents (Elt F) → (⟨S100x1, .i32⟩ : BufTy).Contents (Elt F) → (⟨S100x1, .i1⟩ : BufTy).Contents (Elt F)),
   StableHlo.unary main_call2_c_1 main_call2_v8 ((broadcastInDim S1x1 ![1] bcast_S1_S1x1_1) : (⟨S1, .i32⟩ : BufTy).Contents (Elt F) → (⟨S1x1, .i32⟩ : BufTy).Contents (Elt F)),
   StableHlo.unary main_call2_v8 main_call2_v9 ((broadcastInDim S100x1 ![0, 1] bcast_S1x1_S100x1_0_1) : (⟨S1x1, .i32⟩ : BufTy).Contents (Elt F) → (⟨S100x1, .i32⟩ : BufTy).Contents (Elt F)),
   StableHlo.binary main_call2_v5 main_call2_v9 main_call2_v10 ((cmpi .sle) : (⟨S100x1, .i32⟩ : BufTy).Contents (Elt F) → (⟨S100x1, .i32⟩ : BufTy).Contents (Elt F) → (⟨S100x1, .i1⟩ : BufTy).Contents (Elt F)),
   StableHlo.binary main_call2_v7 main_call2_v10 main_call2_v11 (andi : (⟨S100x1, .i1⟩ : BufTy).Contents (Elt F) → (⟨S100x1, .i1⟩ : BufTy).Contents (Elt F) → (⟨S100x1, .i1⟩ : BufTy).Contents (Elt F)),
   StableHlo.nullary main_call2_c_3 (constantI S_ 1 1#1),
   StableHlo.binary main_call2_v11 main_call2_c_3 main_call2_v12 ((fun x v => Host.reduce IntOp.andi x v reducesTo_S100x1_S100_d1 h_S_) : (⟨S100x1, .i1⟩ : BufTy).Contents (Elt F) → (⟨S_, .i1⟩ : BufTy).Contents (Elt F) → (⟨S100, .i1⟩ : BufTy).Contents (Elt F)),
   StableHlo.binary main_arg3 main_call2_v5 main_call2_v13 ((fun x i => Host.gather gather_S100x128x128x16_S100x1_S100x128x128x16_123_0_n_n_0_1_112812816 x i) : (⟨S100x128x128x16, .f32⟩ : BufTy).Contents (Elt F) → (⟨S100x1, .i32⟩ : BufTy).Contents (Elt F) → (⟨S100x128x128x16, .f32⟩ : BufTy).Contents (Elt F)),
   StableHlo.unary main_call2_v12 main_call2_v14 ((broadcastInDim S100x128x128x16 ![0] bcast_S100_S100x128x128x16_0) : (⟨S100, .i1⟩ : BufTy).Contents (Elt F) → (⟨S100x128x128x16, .i1⟩ : BufTy).Contents (Elt F)),
   StableHlo.nullary main_call2_cst (constant S_ .f32 0x7FC00000#32),
   StableHlo.unary main_call2_cst main_call2_v15 ((broadcastInDim S100x128x128x16 ![] bcast_S_S100x128x128x16) : (⟨S_, .f32⟩ : BufTy).Contents (Elt F) → (⟨S100x128x128x16, .f32⟩ : BufTy).Contents (Elt F)),
   StableHlo.ternary main_call2_v14 main_call2_v13 main_call2_v15 main_v26 (select : (⟨S100x128x128x16, .i1⟩ : BufTy).Contents (Elt F) → (⟨S100x128x128x16, .f32⟩ : BufTy).Contents (Elt F) → (⟨S100x128x128x16, .f32⟩ : BufTy).Contents (Elt F) → (⟨S100x128x128x16, .f32⟩ : BufTy).Contents (Elt F))]

/-- The averaged query embeddings (no claimed result reads them). -/
def opsQ : List (HloOp τ sig (Elt F)) :=
  [StableHlo.unary main_v24 main_v27 (broadcastInDim S1x100x1 ![1] bcast_S100_S1x100x1_1 : (⟨S100, .i1⟩ : BufTy).Contents (Elt F) → (⟨S1x100x1, .i1⟩ : BufTy).Contents (Elt F)),
   StableHlo.binary main_arg0 main_v25 main_v28 (addf : (⟨S1x100x21, .f32⟩ : BufTy).Contents (Elt F) → (⟨S1x100x21, .f32⟩ : BufTy).Contents (Elt F) → (⟨S1x100x21, .f32⟩ : BufTy).Contents (Elt F)),
   StableHlo.nullary main_cst_6 (constant S_ .f32 0x40000000#32),
   StableHlo.unary main_cst_6 main_v29 (broadcastInDim S1x100x21 ![] bcast_S_S1x100x21 : (⟨S_, .f32⟩ : BufTy).Contents (Elt F) → (⟨S1x100x21, .f32⟩ : BufTy).Contents (Elt F)),
   StableHlo.binary main_v28 main_v29 main_v30 (Host.divf : (⟨S1x100x21, .f32⟩ : BufTy).Contents (Elt F) → (⟨S1x100x21, .f32⟩ : BufTy).Contents (Elt F) → (⟨S1x100x21, .f32⟩ : BufTy).Contents (Elt F))]

/-- The choice between averaged and own query embeddings (no claimed result reads it). -/
def opsWhereQ : List (HloOp τ sig (Elt F)) :=
  [StableHlo.unary main_v27 main_call3_v0 ((broadcastInDim S1x100x21 ![0, 1, 2] bcast_S1x100x1_S1x100x21_0_1_2) : (⟨S1x100x1, .i1⟩ : BufTy).Contents (Elt F) → (⟨S1x100x21, .i1⟩ : BufTy).Contents (Elt F)),
   StableHlo.ternary main_call3_v0 main_v30 main_arg0 main_v31 (select : (⟨S1x100x21, .i1⟩ : BufTy).Contents (Elt F) → (⟨S1x100x21, .f32⟩ : BufTy).Contents (Elt F) → (⟨S1x100x21, .f32⟩ : BufTy).Contents (Elt F) → (⟨S1x100x21, .f32⟩ : BufTy).Contents (Elt F))]

/-- Half the sum of a first-frame mask and its match. -/
def opsHalf : List (HloOp τ sig (Elt F)) :=
  [StableHlo.unary main_v24 main_v32 (broadcastInDim S100x1x1x1 ![0] bcast_S100_S100x1x1x1_0 : (⟨S100, .i1⟩ : BufTy).Contents (Elt F) → (⟨S100x1x1x1, .i1⟩ : BufTy).Contents (Elt F)),
   StableHlo.binary main_arg2 main_v26 main_v33 (addf : (⟨S100x128x128x16, .f32⟩ : BufTy).Contents (Elt F) → (⟨S100x128x128x16, .f32⟩ : BufTy).Contents (Elt F) → (⟨S100x128x128x16, .f32⟩ : BufTy).Contents (Elt F)),
   StableHlo.nullary main_cst_7 (constant S_ .f32 0x40000000#32),
   StableHlo.unary main_cst_7 main_v34 (broadcastInDim S100x128x128x16 ![] bcast_S_S100x128x128x16 : (⟨S_, .f32⟩ : BufTy).Contents (Elt F) → (⟨S100x128x128x16, .f32⟩ : BufTy).Contents (Elt F)),
   StableHlo.binary main_v33 main_v34 main_v35 (Host.divf : (⟨S100x128x128x16, .f32⟩ : BufTy).Contents (Elt F) → (⟨S100x128x128x16, .f32⟩ : BufTy).Contents (Elt F) → (⟨S100x128x128x16, .f32⟩ : BufTy).Contents (Elt F))]

/-- The choice between that average and the mask itself. -/
def opsWhere : List (HloOp τ sig (Elt F)) :=
  [StableHlo.unary main_v32 main_call4_v0 ((broadcastInDim S100x128x128x16 ![0, 1, 2, 3] bcast_S100x1x1x1_S100x128x128x16_0_1_2_3) : (⟨S100x1x1x1, .i1⟩ : BufTy).Contents (Elt F) → (⟨S100x128x128x16, .i1⟩ : BufTy).Contents (Elt F)),
   StableHlo.ternary main_call4_v0 main_v35 main_arg2 main_v36 (select : (⟨S100x128x128x16, .i1⟩ : BufTy).Contents (Elt F) → (⟨S100x128x128x16, .f32⟩ : BufTy).Contents (Elt F) → (⟨S100x128x128x16, .f32⟩ : BufTy).Contents (Elt F) → (⟨S100x128x128x16, .f32⟩ : BufTy).Contents (Elt F))]

/-- Multiplication with the indicator of a match. -/
def opsKeep : List (HloOp τ sig (Elt F)) :=
  [StableHlo.nullary main_cst_8 (constant S_ .f32 0x3E4CCCCD#32),
   StableHlo.unary main_cst_8 main_v37 (broadcastInDim S100 ![] bcast_S_S100 : (⟨S_, .f32⟩ : BufTy).Contents (Elt F) → (⟨S100, .f32⟩ : BufTy).Contents (Elt F)),
   StableHlo.binary main_v22 main_v37 main_v38 (cmpf .ogt : (⟨S100, .f32⟩ : BufTy).Contents (Elt F) → (⟨S100, .f32⟩ : BufTy).Contents (Elt F) → (⟨S100, .i1⟩ : BufTy).Contents (Elt F)),
   StableHlo.unary main_v38 main_v39 (uitofp .f32 : (⟨S100, .i1⟩ : BufTy).Contents (Elt F) → (⟨S100, .f32⟩ : BufTy).Contents (Elt F)),
   StableHlo.unary main_v39 main_v40 (broadcastInDim S100x1x1x1 ![0] bcast_S100_S100x1x1x1_0 : (⟨S100, .f32⟩ : BufTy).Contents (Elt F) → (⟨S100x1x1x1, .f32⟩ : BufTy).Contents (Elt F)),
   StableHlo.unary main_v40 main_v41 (broadcastInDim S100x128x128x16 ![0, 1, 2, 3] bcast_S100x1x1x1_S100x128x128x16_0_1_2_3 : (⟨S100x1x1x1, .f32⟩ : BufTy).Contents (Elt F) → (⟨S100x128x128x16, .f32⟩ : BufTy).Contents (Elt F)),
   StableHlo.binary main_v36 main_v41 main_v42 (mulf : (⟨S100x128x128x16, .f32⟩ : BufTy).Contents (Elt F) → (⟨S100x128x128x16, .f32⟩ : BufTy).Contents (Elt F) → (⟨S100x128x128x16, .f32⟩ : BufTy).Contents (Elt F))]

/-- The semantic class of each voxel. -/
def opsSem : List (HloOp τ sig (Elt F)) :=
  [StableHlo.nullary main_call5_v0 (iotaInDim S20x128x128x16 32 0),
   StableHlo.nullary main_call5_cst (constant S_ .f32 0xFF800000#32),
   StableHlo.nullary main_call5_c (constantI S_ 32 0#32),
   StableHlo.quaternary main_arg4 main_call5_v0 main_call5_cst main_call5_c main_call5_v1_0 ((fun x y u v j => (Host.argReduce reducer_argmax_f32_i32 x y u v reducesTo_S20x128x128x16_S128x128x16_d0 h_S_ j).1) : (⟨S20x128x128x16, .f32⟩ : BufTy).Contents (Elt F) → (⟨S20x128x128x16, .i32⟩ : BufTy).Contents (Elt F) → (⟨S_, .f32⟩ : BufTy).Contents (Elt F) → (⟨S_, .i32⟩ : BufTy).Contents (Elt F) → (⟨S128x128x16, .f32⟩ : BufTy).Contents (Elt F)),
   StableHlo.quaternary main_arg4 main_call5_v0 main_call5_cst main_call5_c main_v43 ((fun x y u v j => (Host.argReduce reducer_argmax_f32_i32 x y u v reducesTo_S20x128x128x16_S128x128x16_d0 h_S_ j).2) : (⟨S20x128x128x16, .f32⟩ : BufTy).Contents (Elt F) → (⟨S20x128x128x16, .i32⟩ : BufTy).Contents (Elt F) → (⟨S_, .f32⟩ : BufTy).Contents (Elt F) → (⟨S_, .i32⟩ : BufTy).Contents (Elt F) → (⟨S128x128x16, .i32⟩ : BufTy).Contents (Elt F))]

/-- Multiplication with the indicator of a voxel that is not free space. -/
def opsOut : List (HloOp τ sig (Elt F)) :=
  [StableHlo.nullary main_c (constantI S_ 32 0#32),
   StableHlo.unary main_c main_v44 (broadcastInDim S128x128x16 ![] bcast_S_S128x128x16 : (⟨S_, .i32⟩ : BufTy).Contents (Elt F) → (⟨S128x128x16, .i32⟩ : BufTy).Contents (Elt F)),
   StableHlo.binary main_v43 main_v44 main_v45 (cmpi .ne : (⟨S128x128x16, .i32⟩ : BufTy).Contents (Elt F) → (⟨S128x128x16, .i32⟩ : BufTy).Contents (Elt F) → (⟨S128x128x16, .i1⟩ : BufTy).Contents (Elt F)),
   StableHlo.unary main_v45 main_v46 (uitofp .f32 : (⟨S128x128x16, .i1⟩ : BufTy).Contents (Elt F) → (⟨S128x128x16, .f32⟩ : BufTy).Contents (Elt F)),
   StableHlo.unary main_v46 main_v47 (broadcastInDim S1x128x128x16 ![1, 2, 3] bcast_S128x128x16_S1x128x128x16_1_2_3 : (⟨S128x128x16, .f32⟩ : BufTy).Contents (Elt F) → (⟨S1x128x128x16, .f32⟩ : BufTy).Contents (Elt F)),
   StableHlo.unary main_v47 main_v48 (broadcastInDim S100x128x128x16 ![0, 1, 2, 3] bcast_S1x128x128x16_S100x128x128x16_0_1_2_3 : (⟨S1x128x128x16, .f32⟩ : BufTy).Contents (Elt F) → (⟨S100x128x128x16, .f32⟩ : BufTy).Contents (Elt F)),
   StableHlo.binary main_v42 main_v48 main_v49 (mulf : (⟨S100x128x128x16, .f32⟩ : BufTy).Contents (Elt F) → (⟨S100x128x128x16, .f32⟩ : BufTy).Contents (Elt F) → (⟨S100x128x128x16, .f32⟩ : BufTy).Contents (Elt F))]

/-- The called function is its piece of the line. -/
theorem body_opsArgmax : fn_argmax.body (.of main_v20) main_call0 = seq (opsArgmax (F := F)) := rfl

/-- The called function is its piece of the line. -/
theorem body_opsTakeQ : fn_take.body (.of main_arg1) (.of main_v21) main_call1 = seq (opsTakeQ (F := F)) := rfl

/-- The called function is its piece of the line. -/
theorem body_opsTake : fn_take_0.body (.of main_arg3) (.of main_v21) main_call2 = seq (opsTake (F := F)) := rfl

/-- The called function is its piece of the line. -/
theorem body_opsWhereQ : fn_where_1.body (.of main_v27) (.of main_v30) (.of main_arg0) main_call3 = seq (opsWhereQ (F := F)) := rfl

/-- The called function is its piece of the line. -/
theorem body_opsWhere : fn_where_2.body (.of main_v32) (.of main_v35) (.of main_arg2) main_call4 = seq (opsWhere (F := F)) := rfl

/-- The called function is its piece of the line. -/
theorem body_opsSem : fn_argmax_3.body (.of main_arg4) main_call5 = seq (opsSem (F := F)) := rfl

/-- The whole line. -/
def ops : List (HloOp τ sig (Elt F)) :=
  opsIou ++ (opsArgmax ++ (opsMatch ++ (opsTakeQ ++ (opsTake ++ (opsQ ++ (opsWhereQ ++ (opsHalf ++ (opsWhere ++ (opsKeep ++ (opsSem ++ (opsOut)))))))))))

/-- The program is the line. -/
theorem main_eq (d : Dev nD) : main (F := F) d = seq ops := by
  simp only [ops, StableHlo.seq_append]
  simp only [main, main_part0, main_part1, body_opsArgmax, body_opsTakeQ, body_opsTake, body_opsWhereQ, body_opsWhere, body_opsSem, bind_assoc, pure_bind]
  simp only [StableHlo.seq_bind_seqK, opsIou, opsMatch, opsQ, opsHalf, opsKeep, opsOut, seqK, seq, bind_assoc, pure_bind]

end Cert.ReferenceIdeal.Line

end

end
-- ==== Proof.RefRun.lean ====
/-
  The reference's run and what it leaves: every execution ends with each buffer holding what the line of operations
  leaves there and with every counter at zero; the result array holds `refOut` of the three mask arguments, a term over
  the program's own operations.
-/
module

public import proofs.«01_k».proof.Proof.RefLine

@[expose] public section

noncomputable section

open Idealize.ShloMosaic Idealize.ShloMosaic.TcCoe Idealize.SL.Sem
open Idealize.ShloMosaic.StableHlo (seq seqK after)

namespace Cert.ReferenceIdeal.Line

open Cert.ReferenceIdeal Cert.ReferenceIdeal.Facts Cert.ReferenceIdeal.Facts₀

variable {F : FTy → Type} [FloatOps F]

/-- Every execution terminates, each buffer at what the line leaves there, every counter at zero. -/
theorem run (m : (ℓ : Loc nD τ sig) → Buf (Elt F) ℓ) (ρ : Dev nD → PrngReg) :
    θ_run defs (onTc (τ := τ) main) ⟨m, fun _ => 0, ρ⟩ fun r =>
      (∀ (d : Dev nD) (b : Ref sig .tc), r.2.mem ((d.tc : Thread nD τ).loc b) = after ops (StableHlo.launchContents m d) (Proc.devRef .tc b))
      ∧ r.2.sem = fun _ => 0 :=
  θ_run_mono (StableHlo.run_hlo defs main (fun d => main_eq d) (by decide) (by decide)
    (by simp [ops, opsIou, opsArgmax, opsMatch, opsTakeQ, opsTake, opsQ, opsWhereQ, opsHalf, opsWhere, opsKeep, opsSem, opsOut])
    (by intro op h
        simp only [ops, opsIou, opsArgmax, opsMatch, opsTakeQ, opsTake, opsQ, opsWhereQ, opsHalf, opsWhere, opsKeep, opsSem, opsOut, List.cons_append, List.nil_append] at h
        (repeat (cases h with | head => rfl | tail _ h => ?_)); exact nomatch h) m ρ)
    fun r h => ⟨h, sem_eq_zero_of_no_sems (by decide) r.2⟩

/-! ## The mathematics, piece by piece -/

/-- The indicator of the voxels where a mask exceeds one half. -/
def indR (A : Vec F S100x128x128x16 .f32) : Vec F S100x262144 .f32 :=
  uitofp .f32 (cmpf .ogt (shapeCast S100x262144 A shapeCasts_S100x128x128x16_S100x262144) (broadcastInDim S100x262144 ![] bcast_S_S100x262144 (constant (F := F) S_ .f32 0x3F000000#32)))

/-- The pairwise overlaps. -/
def interR (A B : Vec F S100x128x128x16 .f32) : Vec F S100x100 .f32 :=
  Host.dotGeneral dot_S100x262144_S262144x100_S100x100_1_0_0_1_n_n none (indR A) (transpose S262144x100 [1, 0] (indR B) transposes_S100x262144_S262144x100_1_0)

/-- The area of each mask. -/
def areaR (A : Vec F S100x128x128x16 .f32) : Vec F S100 .f32 :=
  Host.reduceAdd (indR A) (constant (F := F) S_ .f32 0x00000000#32) reducesTo_S100x262144_S100_d1 h_S_

/-- The pairwise intersection over union. -/
def iouR (A B : Vec F S100x128x128x16 .f32) : Vec F S100x100 .f32 :=
  Host.divf (interR A B)
    (maximumf
      (subf (addf (broadcastInDim S100x100 ![0, 1] bcast_S100x1_S100x100_0_1 (broadcastInDim S100x1 ![0] bcast_S100_S100x1_0 (areaR A)))
        (broadcastInDim S100x100 ![0, 1] bcast_S1x100_S100x100_0_1 (broadcastInDim S1x100 ![1] bcast_S100_S1x100_1 (areaR B)))) (interR A B))
      (broadcastInDim S100x100 ![] bcast_S_S100x100 (constant (F := F) S_ .f32 0x3F800000#32)))

/-- The best second-frame query of each first-frame query. -/
def matchR (x : Vec F S100x100 .f32) : Vec F S100 .i32 :=
  fun j => (Host.argReduce reducer_argmax_f32_i32 x (iotaInDim S100x100 32 1) (constant (F := F) S_ .f32 0xFF800000#32) (constantI S_ 32 0#32) reducesTo_S100x100_S100_d1 h_S_ j).2

/-- The best value of each row. -/
def topR (x : Vec F S100x100 .f32) : Vec F S100 .f32 :=
  Host.reduce FloatOps.maximumf x (constant (F := F) S_ .f32 0xFF800000#32) reducesTo_S100x100_S100_d1 h_S_

/-- Whether the best value exceeds the threshold. -/
def goodR (t : Vec F S100 .f32) : Vec F S100 .i1 :=
  cmpf .ogt t (broadcastInDim S100 ![] bcast_S_S100 (constant (F := F) S_ .f32 0x3E4CCCCD#32))

/-- The gather's start indices: a negative index counts from the end. -/
def startR (ix : Vec F S100 .i32) : Vec F S100x1 .i32 :=
  broadcastInDim S100x1 ![0] bcast_S100_S100x1_0
    (select (cmpi .slt ix (broadcastInDim S100 ![] bcast_S_S100 (constantI S_ 32 0#32)))
      (addi ix (broadcastInDim S100 ![] bcast_S_S100 (constantI S_ 32 100#32))) ix)

/-- Whether each start index is within the array. -/
def insideR (s : Vec F S100x1 .i32) : Vec F S100 .i1 :=
  Host.reduce IntOp.andi
    (andi (cmpi .sge s (broadcastInDim S100x1 ![] bcast_S_S100x1 (constantI S_ 32 0#32)))
      (cmpi .sle s (broadcastInDim S100x1 ![0, 1] bcast_S1x1_S100x1_0_1 (broadcastInDim S1x1 ![1] bcast_S1_S1x1_1 (constantI S1 32 99#32)))))
    (constantI S_ 1 1#1) reducesTo_S100x1_S100_d1 h_S_

/-- The masks the indices name. -/
def takeR (B : Vec F S100x128x128x16 .f32) (ix : Vec F S100 .i32) : Vec F S100x128x128x16 .f32 :=
  select (broadcastInDim S100x128x128x16 ![0] bcast_S100_S100x128x128x16_0 (insideR (startR ix)))
    (Host.gather gather_S100x128x128x16_S100x1_S100x128x128x16_123_0_n_n_0_1_112812816 B (startR ix))
    (broadcastInDim S100x128x128x16 ![] bcast_S_S100x128x128x16 (constant (F := F) S_ .f32 0x7FC00000#32))

/-- Half the sum. -/
def halfR (A T : Vec F S100x128x128x16 .f32) : Vec F S100x128x128x16 .f32 :=
  Host.divf (addf A T) (broadcastInDim S100x128x128x16 ![] bcast_S_S100x128x128x16 (constant (F := F) S_ .f32 0x40000000#32))

/-- The flag of a query over its whole mask. -/
def flagR (k : Vec F S100 .i1) : Vec F S100x128x128x16 .i1 :=
  broadcastInDim S100x128x128x16 ![0, 1, 2, 3] bcast_S100x1x1x1_S100x128x128x16_0_1_2_3 (broadcastInDim S100x1x1x1 ![0] bcast_S100_S100x1x1x1_0 k)

/-- The indicator of a query's flag over its whole mask. -/
def keepR (k : Vec F S100 .i1) : Vec F S100x128x128x16 .f32 :=
  broadcastInDim S100x128x128x16 ![0, 1, 2, 3] bcast_S100x1x1x1_S100x128x128x16_0_1_2_3 (broadcastInDim S100x1x1x1 ![0] bcast_S100_S100x1x1x1_0 (uitofp .f32 k))

/-- The semantic class of each voxel. -/
def classR (s : Vec F S20x128x128x16 .f32) : Vec F S128x128x16 .i32 :=
  fun j => (Host.argReduce reducer_argmax_f32_i32 s (iotaInDim S20x128x128x16 32 0) (constant (F := F) S_ .f32 0xFF800000#32) (constantI S_ 32 0#32) reducesTo_S20x128x128x16_S128x128x16_d0 h_S_ j).2

/-- The indicator of a voxel that is not free space, over every mask. -/
def fullR (k : Vec F S128x128x16 .i32) : Vec F S100x128x128x16 .f32 :=
  broadcastInDim S100x128x128x16 ![0, 1, 2, 3] bcast_S1x128x128x16_S100x128x128x16_0_1_2_3 (broadcastInDim S1x128x128x16 ![1, 2, 3] bcast_S128x128x16_S1x128x128x16_1_2_3
    (uitofp .f32 (cmpi .ne k (broadcastInDim S128x128x16 ![] bcast_S_S128x128x16 (constantI S_ 32 0#32)))))

/-- The reference's result. -/
def refOut (A B : Vec F S100x128x128x16 .f32) (s : Vec F S20x128x128x16 .f32) : Vec F S100x128x128x16 .f32 :=
  mulf (mulf (select (flagR (goodR (topR (iouR A B)))) (halfR A (takeR B (matchR (iouR A B)))) A) (keepR (goodR (topR (iouR A B))))) (fullR (classR s))

/-! ## What each piece leaves -/

variable (V : Valuation τ sig (Elt F))

/-- The table. -/
theorem iou_v20 : after opsIou V (Proc.devRef .tc main_v20) = iouR (V (Proc.devRef .tc main_arg2)) (V (Proc.devRef .tc main_arg3)) := by
  unfold opsIou iouR interR areaR indR
  after_results
  rfl

/-- The matches. -/
theorem argmax_v21 : after opsArgmax V (Proc.devRef .tc main_v21) = matchR (V (Proc.devRef .tc main_v20)) := by
  unfold opsArgmax matchR
  after_results

/-- The best values. -/
theorem match_v22 : after opsMatch V (Proc.devRef .tc main_v22) = topR (V (Proc.devRef .tc main_v20)) := by
  unfold opsMatch topR
  after_results

/-- The flags. -/
theorem match_v24 : after opsMatch V (Proc.devRef .tc main_v24) = goodR (topR (V (Proc.devRef .tc main_v20))) := by
  unfold opsMatch goodR topR
  after_results

/-- The matched masks. -/
theorem take_v26 : after opsTake V (Proc.devRef .tc main_v26) = takeR (V (Proc.devRef .tc main_arg3)) (V (Proc.devRef .tc main_v21)) := by
  unfold opsTake takeR insideR startR
  after_results

/-- The flags, as columns. -/
theorem half_v32 : after opsHalf V (Proc.devRef .tc main_v32) = broadcastInDim S100x1x1x1 ![0] bcast_S100_S100x1x1x1_0 (V (Proc.devRef .tc main_v24)) := by
  unfold opsHalf
  after_results

/-- The averages. -/
theorem half_v35 : after opsHalf V (Proc.devRef .tc main_v35) = halfR (V (Proc.devRef .tc main_arg2)) (V (Proc.devRef .tc main_v26)) := by
  unfold opsHalf halfR
  after_results

/-- The choice. -/
theorem where_v36 : after opsWhere V (Proc.devRef .tc main_v36) = select (broadcastInDim S100x128x128x16 ![0, 1, 2, 3] bcast_S100x1x1x1_S100x128x128x16_0_1_2_3 (V (Proc.devRef .tc main_v32))) (V (Proc.devRef .tc main_v35)) (V (Proc.devRef .tc main_arg2)) := by
  unfold opsWhere
  after_results

/-- The kept masks. -/
theorem keep_v42 : after opsKeep V (Proc.devRef .tc main_v42) = mulf (V (Proc.devRef .tc main_v36)) (keepR (goodR (V (Proc.devRef .tc main_v22)))) := by
  unfold opsKeep keepR goodR
  after_results

/-- The classes. -/
theorem sem_v43 : after opsSem V (Proc.devRef .tc main_v43) = classR (V (Proc.devRef .tc main_arg4)) := by
  unfold opsSem classR
  after_results

/-- The result. -/
theorem out_v49 : after opsOut V (Proc.devRef .tc main_v49) = mulf (V (Proc.devRef .tc main_v42)) (fullR (V (Proc.devRef .tc main_v43))) := by
  unfold opsOut fullR
  after_results

/-- Two lines one after the other. -/
theorem after_two (l k : List (HloOp τ sig (Elt F))) : ∀ V : Valuation τ sig (Elt F), after (l ++ k) V = after k (after l V) := by
  induction l with
  | nil => intro V; rfl
  | cons op l ih => intro V; exact ih _

/-- The buffers a piece writes. -/
abbrev opsIou_W : List (Ref sig .tc) := [main_v0, main_cst, main_v1, main_v2, main_v3, main_v4, main_cst_0, main_v5, main_v6, main_v7, main_v8, main_v9, main_cst_1, main_v10, main_v11, main_cst_2, main_v12, main_v13, main_v14, main_v15, main_v16, main_v17, main_cst_3, main_v18, main_v19, main_v20]
/-- A buffer the piece does not write keeps its contents. -/
theorem opsIou_of (r : Ref sig .tc) (h : r ∉ opsIou_W) : after opsIou V (Proc.devRef .tc r) = V (Proc.devRef .tc r) :=
  StableHlo.after_of_writes_sub opsIou V (StableHlo.forall_writes_sub_of_map (W := opsIou_W) rfl) h

/-- The buffers a piece writes. -/
abbrev opsArgmax_W : List (Ref sig .tc) := [main_call0_v0, main_call0_cst, main_call0_c, main_call0_v1_0, main_v21]
/-- A buffer the piece does not write keeps its contents. -/
theorem opsArgmax_of (r : Ref sig .tc) (h : r ∉ opsArgmax_W) : after opsArgmax V (Proc.devRef .tc r) = V (Proc.devRef .tc r) :=
  StableHlo.after_of_writes_sub opsArgmax V (StableHlo.forall_writes_sub_of_map (W := opsArgmax_W) rfl) h

/-- The buffers a piece writes. -/
abbrev opsMatch_W : List (Ref sig .tc) := [main_cst_4, main_v22, main_cst_5, main_v23, main_v24]
/-- A buffer the piece does not write keeps its contents. -/
theorem opsMatch_of (r : Ref sig .tc) (h : r ∉ opsMatch_W) : after opsMatch V (Proc.devRef .tc r) = V (Proc.devRef .tc r) :=
  StableHlo.after_of_writes_sub opsMatch V (StableHlo.forall_writes_sub_of_map (W := opsMatch_W) rfl) h

/-- The buffers a piece writes. -/
abbrev opsTakeQ_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v25]
/-- A buffer the piece does not write keeps its contents. -/
theorem opsTakeQ_of (r : Ref sig .tc) (h : r ∉ opsTakeQ_W) : after opsTakeQ V (Proc.devRef .tc r) = V (Proc.devRef .tc r) :=
  StableHlo.after_of_writes_sub opsTakeQ V (StableHlo.forall_writes_sub_of_map (W := opsTakeQ_W) rfl) h

/-- The buffers a piece writes. -/
abbrev opsTake_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v26]
/-- A buffer the piece does not write keeps its contents. -/
theorem opsTake_of (r : Ref sig .tc) (h : r ∉ opsTake_W) : after opsTake V (Proc.devRef .tc r) = V (Proc.devRef .tc r) :=
  StableHlo.after_of_writes_sub opsTake V (StableHlo.forall_writes_sub_of_map (W := opsTake_W) rfl) h

/-- The buffers a piece writes. -/
abbrev opsQ_W : List (Ref sig .tc) := [main_v27, main_v28, main_cst_6, main_v29, main_v30]
/-- A buffer the piece does not write keeps its contents. -/
theorem opsQ_of (r : Ref sig .tc) (h : r ∉ opsQ_W) : after opsQ V (Proc.devRef .tc r) = V (Proc.devRef .tc r) :=
  StableHlo.after_of_writes_sub opsQ V (StableHlo.forall_writes_sub_of_map (W := opsQ_W) rfl) h

/-- The buffers a piece writes. -/
abbrev opsWhereQ_W : List (Ref sig .tc) := [main_call3_v0, main_v31]
/-- A buffer the piece does not write keeps its contents. -/
theorem opsWhereQ_of (r : Ref sig .tc) (h : r ∉ opsWhereQ_W) : after opsWhereQ V (Proc.devRef .tc r) = V (Proc.devRef .tc r) :=
  StableHlo.after_of_writes_sub opsWhereQ V (StableHlo.forall_writes_sub_of_map (W := opsWhereQ_W) rfl) h

/-- The buffers a piece writes. -/
abbrev opsHalf_W : List (Ref sig .tc) := [main_v32, main_v33, main_cst_7, main_v34, main_v35]
/-- A buffer the piece does not write keeps its contents. -/
theorem opsHalf_of (r : Ref sig .tc) (h : r ∉ opsHalf_W) : after opsHalf V (Proc.devRef .tc r) = V (Proc.devRef .tc r) :=
  StableHlo.after_of_writes_sub opsHalf V (StableHlo.forall_writes_sub_of_map (W := opsHalf_W) rfl) h

/-- The buffers a piece writes. -/
abbrev opsWhere_W : List (Ref sig .tc) := [main_call4_v0, main_v36]
/-- A buffer the piece does not write keeps its contents. -/
theorem opsWhere_of (r : Ref sig .tc) (h : r ∉ opsWhere_W) : after opsWhere V (Proc.devRef .tc r) = V (Proc.devRef .tc r) :=
  StableHlo.after_of_writes_sub opsWhere V (StableHlo.forall_writes_sub_of_map (W := opsWhere_W) rfl) h

/-- The buffers a piece writes. -/
abbrev opsKeep_W : List (Ref sig .tc) := [main_cst_8, main_v37, main_v38, main_v39, main_v40, main_v41, main_v42]
/-- A buffer the piece does not write keeps its contents. -/
theorem opsKeep_of (r : Ref sig .tc) (h : r ∉ opsKeep_W) : after opsKeep V (Proc.devRef .tc r) = V (Proc.devRef .tc r) :=
  StableHlo.after_of_writes_sub opsKeep V (StableHlo.forall_writes_sub_of_map (W := opsKeep_W) rfl) h

/-- The buffers a piece writes. -/
abbrev opsSem_W : List (Ref sig .tc) := [main_call5_v0, main_call5_cst, main_call5_c, main_call5_v1_0, main_v43]
/-- A buffer the piece does not write keeps its contents. -/
theorem opsSem_of (r : Ref sig .tc) (h : r ∉ opsSem_W) : after opsSem V (Proc.devRef .tc r) = V (Proc.devRef .tc r) :=
  StableHlo.after_of_writes_sub opsSem V (StableHlo.forall_writes_sub_of_map (W := opsSem_W) rfl) h

/-- The buffers a piece writes. -/
abbrev opsOut_W : List (Ref sig .tc) := [main_c, main_v44, main_v45, main_v46, main_v47, main_v48, main_v49]
/-- A buffer the piece does not write keeps its contents. -/
theorem opsOut_of (r : Ref sig .tc) (h : r ∉ opsOut_W) : after opsOut V (Proc.devRef .tc r) = V (Proc.devRef .tc r) :=
  StableHlo.after_of_writes_sub opsOut V (StableHlo.forall_writes_sub_of_map (W := opsOut_W) rfl) h

/-- The result array after the whole line. -/
theorem ops_v49 : after ops V (Proc.devRef .tc main_v49) = refOut (V (Proc.devRef .tc main_arg2)) (V (Proc.devRef .tc main_arg3)) (V (Proc.devRef .tc main_arg4)) := by
  simp only [ops, after_two]
  rw [out_v49, opsSem_of _ main_v42 (by decide), sem_v43, keep_v42]
  rw [opsKeep_of _ main_arg4 (by decide), opsWhere_of _ main_arg4 (by decide), opsHalf_of _ main_arg4 (by decide), opsWhereQ_of _ main_arg4 (by decide), opsQ_of _ main_arg4 (by decide), opsTake_of _ main_arg4 (by decide), opsTakeQ_of _ main_arg4 (by decide), opsMatch_of _ main_arg4 (by decide), opsArgmax_of _ main_arg4 (by decide), opsIou_of _ main_arg4 (by decide)]
  rw [where_v36, opsWhere_of _ main_v22 (by decide), opsHalf_of _ main_v22 (by decide), opsWhereQ_of _ main_v22 (by decide), opsQ_of _ main_v22 (by decide), opsTake_of _ main_v22 (by decide), opsTakeQ_of _ main_v22 (by decide), match_v22]
  rw [half_v32, half_v35, opsHalf_of _ main_arg2 (by decide), opsWhereQ_of _ main_arg2 (by decide), opsQ_of _ main_arg2 (by decide), opsTake_of _ main_arg2 (by decide), opsTakeQ_of _ main_arg2 (by decide), opsMatch_of _ main_arg2 (by decide), opsArgmax_of _ main_arg2 (by decide), opsIou_of _ main_arg2 (by decide)]
  rw [opsWhereQ_of _ main_v24 (by decide), opsQ_of _ main_v24 (by decide), opsTake_of _ main_v24 (by decide), opsTakeQ_of _ main_v24 (by decide), match_v24]
  rw [opsWhereQ_of _ main_v26 (by decide), opsQ_of _ main_v26 (by decide), take_v26]
  rw [opsTakeQ_of _ main_arg3 (by decide), opsMatch_of _ main_arg3 (by decide), opsArgmax_of _ main_arg3 (by decide), opsIou_of _ main_arg3 (by decide), opsTakeQ_of _ main_v21 (by decide), opsMatch_of _ main_v21 (by decide), argmax_v21]
  rw [opsArgmax_of _ main_v20 (by decide), iou_v20]
  rfl

/-- The arguments stay. -/
theorem ops_arg0 : after ops V (Proc.devRef .tc main_arg0) = V (Proc.devRef .tc main_arg0) := by
  simp only [ops, after_two]
  rw [opsOut_of _ main_arg0 (by decide), opsSem_of _ main_arg0 (by decide), opsKeep_of _ main_arg0 (by decide), opsWhere_of _ main_arg0 (by decide), opsHalf_of _ main_arg0 (by decide), opsWhereQ_of _ main_arg0 (by decide), opsQ_of _ main_arg0 (by decide), opsTake_of _ main_arg0 (by decide), opsTakeQ_of _ main_arg0 (by decide), opsMatch_of _ main_arg0 (by decide), opsArgmax_of _ main_arg0 (by decide), opsIou_of _ main_arg0 (by decide)]

/-- The arguments stay. -/
theorem ops_arg1 : after ops V (Proc.devRef .tc main_arg1) = V (Proc.devRef .tc main_arg1) := by
  simp only [ops, after_two]
  rw [opsOut_of _ main_arg1 (by decide), opsSem_of _ main_arg1 (by decide), opsKeep_of _ main_arg1 (by decide), opsWhere_of _ main_arg1 (by decide), opsHalf_of _ main_arg1 (by decide), opsWhereQ_of _ main_arg1 (by decide), opsQ_of _ main_arg1 (by decide), opsTake_of _ main_arg1 (by decide), opsTakeQ_of _ main_arg1 (by decide), opsMatch_of _ main_arg1 (by decide), opsArgmax_of _ main_arg1 (by decide), opsIou_of _ main_arg1 (by decide)]

/-- The arguments stay. -/
theorem ops_arg2 : after ops V (Proc.devRef .tc main_arg2) = V (Proc.devRef .tc main_arg2) := by
  simp only [ops, after_two]
  rw [opsOut_of _ main_arg2 (by decide), opsSem_of _ main_arg2 (by decide), opsKeep_of _ main_arg2 (by decide), opsWhere_of _ main_arg2 (by decide), opsHalf_of _ main_arg2 (by decide), opsWhereQ_of _ main_arg2 (by decide), opsQ_of _ main_arg2 (by decide), opsTake_of _ main_arg2 (by decide), opsTakeQ_of _ main_arg2 (by decide), opsMatch_of _ main_arg2 (by decide), opsArgmax_of _ main_arg2 (by decide), opsIou_of _ main_arg2 (by decide)]

/-- The arguments stay. -/
theorem ops_arg3 : after ops V (Proc.devRef .tc main_arg3) = V (Proc.devRef .tc main_arg3) := by
  simp only [ops, after_two]
  rw [opsOut_of _ main_arg3 (by decide), opsSem_of _ main_arg3 (by decide), opsKeep_of _ main_arg3 (by decide), opsWhere_of _ main_arg3 (by decide), opsHalf_of _ main_arg3 (by decide), opsWhereQ_of _ main_arg3 (by decide), opsQ_of _ main_arg3 (by decide), opsTake_of _ main_arg3 (by decide), opsTakeQ_of _ main_arg3 (by decide), opsMatch_of _ main_arg3 (by decide), opsArgmax_of _ main_arg3 (by decide), opsIou_of _ main_arg3 (by decide)]

/-- The arguments stay. -/
theorem ops_arg4 : after ops V (Proc.devRef .tc main_arg4) = V (Proc.devRef .tc main_arg4) := by
  simp only [ops, after_two]
  rw [opsOut_of _ main_arg4 (by decide), opsSem_of _ main_arg4 (by decide), opsKeep_of _ main_arg4 (by decide), opsWhere_of _ main_arg4 (by decide), opsHalf_of _ main_arg4 (by decide), opsWhereQ_of _ main_arg4 (by decide), opsQ_of _ main_arg4 (by decide), opsTake_of _ main_arg4 (by decide), opsTakeQ_of _ main_arg4 (by decide), opsMatch_of _ main_arg4 (by decide), opsArgmax_of _ main_arg4 (by decide), opsIou_of _ main_arg4 (by decide)]

end Cert.ReferenceIdeal.Line

end

end
-- ==== Proof.RefVal.lean ====
/-
  The reference's result at an index: the merged mask of the mathematics, the match of each query being the first
  position of its greatest intersection over union.
-/
module

public import proofs.«01_k».proof.Proof.Spec
public import proofs.«01_k».proof.Proof.RefRun

@[expose] public section

noncomputable section

namespace Cert.ReferenceIdeal.Val

open Idealize.ShloMosaic Cert.ReferenceIdeal Cert.ReferenceIdeal.Line Cert.ReferenceIdeal.Facts Cert.ReferenceIdeal.Facts₀ Cert.Math

variable (A B : Vec Ideal S100x128x128x16 .f32) (s : Vec Ideal S20x128x128x16 .f32)

/-- The indicator array holds indicators. -/
theorem indR_apply (q : Fin 100) (v : Fin 262144) : indR A (ix2 q v) = ((ind (vox (masks A) q v) : ℝ) : EReal) := by
  pointwise [indR]
  unfold ind vox
  refine (coe_bit _).trans ?_
  split <;> simp

/-- The overlaps are counts. -/
theorem interR_apply (q r : Fin 100) : interR A B (ix2 q r) = ((both (masks A) (masks B) q r : ℝ) : EReal) := by
  pointwise [interR]
  rw [both, coe_sum]
  exact Finset.sum_congr rfl fun v _ => by rw [indR_apply, indR_apply, Nat.cast_mul, EReal.coe_mul]

/-- The areas are counts. -/
theorem areaR_apply (q : Fin 100) : areaR A (ix1 q) = ((area (masks A) q : ℝ) : EReal) := by
  pointwise [areaR]
  rw [area, coe_sum]
  exact Finset.sum_congr rfl fun v _ => indR_apply A q v

/-- The table holds intersections over unions. -/
theorem iouR_apply (q r : Fin 100) : iouR A B (ix2 q r) = iou (masks A) (masks B) q r := by
  pointwise [iouR]
  rw [interR_apply, areaR_apply, areaR_apply]
  rfl

/-- A pair reduction along one axis, from the pair (bottom, 0): the position it leaves is the first of a greatest value. -/
theorem argReduce_arg {s t u : Shape} {axes : List (Fin s.rank)} {n : ℕ} (hn : 0 < n) (hn' : n ≤ 2 ^ 31) (x : s.Idx → EReal) (y : s.Idx → BitVec 32)
    (ix : u.Idx → EReal) (iy : u.Idx → BitVec 32) (h : s.ReducesTo axes t) (hu : 0 < u.numel) (j : t.Idx) (e : Fin n → s.Idx)
    (hf : ∀ i, h.drop i = j ↔ ∃ k, e k = i) (hy : ∀ k, y (e k) = BitVec.ofNat 32 k.val) (hix : ix (Shape.Idx.first hu) = ⊥)
    (hiy : iy (Shape.Idx.first hu) = 0#32) :
    ∃ k : Fin n, (Host.argReduce (F := Ideal) (φ := .f32) reducer_argmax_f32_i32 x y ix iy h hu j).2 = BitVec.ofNat 32 k.val ∧ IsArg (fun k => x (e k)) k := by
  rw [Ideal.argReduce_eq_reduce2, Host.reduce2_eq_foldl_fiber, hix, hiy]
  refine foldl_arg hn hn' _ _ fun p => ?_
  unfold Host.argReduceFiber
  simp only [List.mem_map, List.mem_filter, List.mem_finRange, true_and, decide_eq_true_eq]
  constructor
  · rintro ⟨v, hv, rfl⟩
    obtain ⟨k, hk⟩ := (hf _).mp hv
    exact ⟨k, by rw [← hk, hy]⟩
  · rintro ⟨k, rfl⟩
    refine ⟨s.rowMajor (e k), ?_, ?_⟩
    · rw [Equiv.symm_apply_apply]
      exact (hf _).mpr ⟨k, rfl⟩
    · rw [Equiv.symm_apply_apply, hy]

/-- The match of a query is the first position of the greatest value of its row. -/
theorem matchR_apply (x : Vec Ideal S100x100 .f32) (q : Fin 100) :
    ∃ k : Fin 100, matchR x (ix1 q) = BitVec.ofNat 32 k.val ∧ IsArg (fun r => x (ix2 q r)) k := by
  unfold matchR
  exact argReduce_arg (by omega) (by norm_num) x (iotaInDim S100x100 32 1) _ _ reducesTo_S100x100_S100_d1 h_S_ (ix1 q) (fun k => ix2 q k)
    (Shape.ReducesTo.fiber_r2_a1 reducesTo_S100x100_S100_d1 (ix1 q)) (fun _ => rfl) ofBits_neg_inf rfl

/-- The indices that drop to a voxel are its classes. -/
theorem class_fiber (x y : Fin 128) (z : Fin 16) (i) : reducesTo_S20x128x128x16_S128x128x16_d0.drop i = ix3 x y z ↔ ∃ k : Fin 20, ix4 k x y z = i := by
  rw [Shape.ReducesTo.fiber_r4_a0 reducesTo_S20x128x128x16_S128x128x16_d0 (ix3 x y z)]
  rfl

/-- The class numbers. -/
theorem class_iota (x y : Fin 128) (z : Fin 16) (k : Fin 20) : iotaInDim S20x128x128x16 32 0 (ix4 k x y z) = BitVec.ofNat 32 k.val := rfl

/-- The reduction that finds a voxel's class finds the first position of its greatest score. -/
theorem class_arg (x y : Fin 128) (z : Fin 16) :
    ∃ k : Fin 20, (Host.argReduce (F := Ideal) (φ := .f32) reducer_argmax_f32_i32 s (iotaInDim S20x128x128x16 32 0) (constant (F := Ideal) S_ .f32 0xFF800000#32) (constantI S_ 32 0#32) reducesTo_S20x128x128x16_S128x128x16_d0 h_S_ (ix3 x y z)).2 = BitVec.ofNat 32 k.val ∧ IsArg (fun c => s (ix4 c x y z)) k := by
  have h1 : constant (F := Ideal) S_ .f32 0xFF800000#32 (Shape.Idx.first h_S_) = ⊥ := ofBits_neg_inf
  have h2 : constantI S_ 32 0#32 (Shape.Idx.first h_S_) = 0#32 := rfl
  have := argReduce_arg (by omega) (by norm_num) s (iotaInDim S20x128x128x16 32 0) (constant (F := Ideal) S_ .f32 0xFF800000#32) (constantI S_ 32 0#32) reducesTo_S20x128x128x16_S128x128x16_d0 h_S_ (ix3 x y z)
    (fun k => ix4 k x y z) (class_fiber x y z) (class_iota x y z) h1 h2
  exact this

/-- The class array as that reduction. -/
theorem classR_eq : classR s = fun j => (Host.argReduce (F := Ideal) (φ := .f32) reducer_argmax_f32_i32 s (iotaInDim S20x128x128x16 32 0) (constant (F := Ideal) S_ .f32 0xFF800000#32) (constantI S_ 32 0#32) reducesTo_S20x128x128x16_S128x128x16_d0 h_S_ j).2 := by
  unfold classR
  exact Eq.refl _

/-- The class of a voxel is the first position of its greatest score. -/
theorem classR_apply (x y : Fin 128) (z : Fin 16) :
    ∃ k : Fin 20, classR s (ix3 x y z) = BitVec.ofNat 32 k.val ∧ IsArg (fun c => s (ix4 c x y z)) k := by
  obtain ⟨k, hk, h⟩ := class_arg s x y z
  exact ⟨k, (congrFun (classR_eq s) _).trans hk, h⟩

/-- The best value of a row is the value at its match. -/
theorem topR_apply (x : Vec Ideal S100x100 .f32) (q k : Fin 100) (hk : IsArg (fun r => x (ix2 q r)) k) : topR x (ix1 q) = x (ix2 q k) := by
  pointwise [topR]
  exact (congrArg (fun b => Finset.fold max b (fun k => x (ix2 q k)) Finset.univ) ofBits_neg_inf).trans hk.fold_max

/-- The start index of a query whose match is in range is that match. -/
theorem startR_apply (ix : Vec Ideal S100 .i32) (q k : Fin 100) (z : Fin 1) (h : ix (ix1 q) = BitVec.ofNat 32 k.val) :
    startR (F := Ideal) ix (ix2 q z) = BitVec.ofNat 32 k.val := by
  pointwise [startR]
  rw [h]
  clear h
  revert k
  decide +kernel

/-- A match in range is inside. -/
theorem insideR_apply (x : Vec Ideal S100x1 .i32) (q k : Fin 100) (h : x (ix2 q 0) = BitVec.ofNat 32 k.val) :
    insideR (F := Ideal) x (ix1 q) = 1#1 := by
  pointwise [insideR]
  rw [Finset.univ_unique, Finset.fold_singleton]
  rw [show (default : Fin 1) = 0 from rfl, h]
  clear h
  revert k
  decide +kernel

/-- The gather reads the mask the start index names. -/
theorem gather_apply (x : Vec Ideal S100x1 .i32) (q k : Fin 100) (a b : Fin 128) (c : Fin 16) (h : x (ix2 q 0) = BitVec.ofNat 32 k.val) :
    Host.gather gather_S100x128x128x16_S100x1_S100x128x128x16_123_0_n_n_0_1_112812816 B x (ix4 q a b c) = B (ix4 k a b c) := by
  unfold Host.gather
  congr 1
  funext i
  refine Fin.ext ?_
  show GatherDims.start _ (ix4 q a b c) x i + GatherDims.batchCoord _ (ix4 q a b c) i + GatherDims.offCoord _ (ix4 q a b c) i = _
  match i with
  | ⟨0, _⟩ =>
    have e : gather_S100x128x128x16_S100x1_S100x128x128x16_123_0_n_n_0_1_112812816.start (ix4 q a b c) x ⟨0, by decide⟩ = k.val := by
      show min (x _).toInt.toNat 99 = k.val
      rw [show x _ = BitVec.ofNat 32 k.val from (congrArg x (by funext b; match b with | ⟨0, _⟩ => rfl | ⟨1, _⟩ => rfl)).trans h]
      rw [toInt_ofNat (by omega)]
      omega
    rw [e]
    rfl
  | ⟨1, _⟩ => exact Nat.zero_add _
  | ⟨2, _⟩ => exact Nat.zero_add _
  | ⟨3, _⟩ => exact Nat.zero_add _

/-- A query whose match is in range takes that mask. -/
theorem takeR_apply (ix : Vec Ideal S100 .i32) (q k : Fin 100) (a b : Fin 128) (c : Fin 16) (h : ix (ix1 q) = BitVec.ofNat 32 k.val) :
    takeR B ix (ix4 q a b c) = B (ix4 k a b c) := by
  pointwise [takeR]
  rw [insideR_apply _ q k (startR_apply ix q k 0 h), gather_apply B _ q k a b c (startR_apply ix q k 0 h)]
  rfl

/-- THE REFERENCE'S RESULT AT AN INDEX is the merged mask, for the first best match of the query. -/
theorem refOut_apply (q : Fin 100) (x y : Fin 128) (z : Fin 16) :
    ∃ k, IsArg (iou (masks A) (masks B) q) k ∧ refOut A B s (ix4 q x y z) = merged (masks A) (masks B) (scores s) q k x y z := by
  obtain ⟨k, hk, hm⟩ := matchR_apply (iouR A B) q
  have hm' : IsArg (iou (masks A) (masks B) q) k := by
    have : (fun r => iouR A B (ix2 q r)) = iou (masks A) (masks B) q := funext fun r => iouR_apply A B q r
    rwa [this] at hm
  refine ⟨k, hm', ?_⟩
  obtain ⟨c, hc, hs⟩ := classR_apply s x y z
  have hg : goodR (topR (iouR A B)) (ix1 q) = BitVec.ofBool (decide (Ideal.ofBits .f32 0x3E4CCCCD#32 < iou (masks A) (masks B) q k)) := by
    pointwise [goodR]
    rw [topR_apply _ q k hm, iouR_apply]
  have hf : FloatOps.uitofp (F := Ideal) .f32 (IntOp.cmpi .ne (classR s (ix3 x y z)) 0#32) = full (scores s) x y z := by
    rw [hc]
    have e : IntOp.cmpi .ne (BitVec.ofNat 32 c.val) 0#32 = BitVec.ofBool (decide (c ≠ 0)) := by
      clear hc hs; revert c; decide +kernel
    rw [e, coe_bit, full]
    exact if_congr hs.ne_zero_iff rfl rfl
  pointwise [refOut, flagR, halfR, keepR, fullR]
  rw [hf, hg, coe_bit, takeR_apply B _ q k x y z hk, merged]
  by_cases h : Ideal.ofBits .f32 0x3E4CCCCD#32 < iou (masks A) (masks B) q k
  · rw [if_pos h, if_pos h, decide_eq_true h, mul_one]
    rw [show Ideal.ofBits .f32 1073741824#32 = 2 from ofBits_two]
    rfl
  · rw [if_neg h, if_neg h, mul_zero, zero_mul]

end Cert.ReferenceIdeal.Val

end

end
-- ==== Proof.lean ====
/-
  The proof of `Cert.Claim`: both idealized programs run to the end with their arguments unchanged and every semaphore
  back at zero, and their results are equal.
-/
module

public import proofs.«01_k».proof.Defs
public import proofs.«01_k».proof.Proof.KerVal
public import proofs.«01_k».proof.Proof.RefVal

@[expose] public section

set_option maxRecDepth 16384

noncomputable section

namespace Cert.Proof

open Idealize.ShloMosaic Idealize.SL.Sem

/-- Every run of the kernel ends with the arguments as launched, the semaphores at zero and the result at the merged masks. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v21) = Cert.KernelIdeal.Gen.V5 m (Cert.KernelIdeal.Val.outs m) c (Proc.devRef .tc Cert.KernelIdeal.main_v21)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_mono (Cert.KernelIdeal.Whole.run (Cert.KernelIdeal.Val.leaves m) g) fun _ h =>
    ⟨fun c => ⟨h.1 c Cert.KernelIdeal.main_v21 (Finset.mem_filter.mpr ⟨StableHlo.devRef_mem_tcRefs _, by decide⟩),
      (h.1 c Cert.KernelIdeal.main_arg0 (Finset.mem_filter.mpr ⟨StableHlo.devRef_mem_tcRefs _, by decide⟩)).trans (Cert.KernelIdeal.Gen.V5_main_arg0 m _ c),
      (h.1 c Cert.KernelIdeal.main_arg1 (Finset.mem_filter.mpr ⟨StableHlo.devRef_mem_tcRefs _, by decide⟩)).trans (Cert.KernelIdeal.Gen.V5_main_arg1 m _ c),
      (h.1 c Cert.KernelIdeal.main_arg2 (Finset.mem_filter.mpr ⟨StableHlo.devRef_mem_tcRefs _, by decide⟩)).trans (Cert.KernelIdeal.Gen.V5_main_arg2 m _ c),
      (h.1 c Cert.KernelIdeal.main_arg3 (Finset.mem_filter.mpr ⟨StableHlo.devRef_mem_tcRefs _, by decide⟩)).trans (Cert.KernelIdeal.Gen.V5_main_arg3 m _ c),
      (h.1 c Cert.KernelIdeal.main_arg4 (Finset.mem_filter.mpr ⟨StableHlo.devRef_mem_tcRefs _, by decide⟩)).trans (Cert.KernelIdeal.Gen.V5_main_arg4 m _ c)⟩, h.2⟩

/-- Every run of the reference ends with the arguments as launched, the semaphores at zero and the result at `refOut`. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_v49)
            = Cert.ReferenceIdeal.Line.refOut (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  θ_run_mono (Cert.ReferenceIdeal.Line.run m g) fun _ h =>
    ⟨fun c => ⟨(h.1 c Cert.ReferenceIdeal.main_v49).trans (Cert.ReferenceIdeal.Line.ops_v49 _),
      (h.1 c Cert.ReferenceIdeal.main_arg0).trans (Cert.ReferenceIdeal.Line.ops_arg0 _),
      (h.1 c Cert.ReferenceIdeal.main_arg1).trans (Cert.ReferenceIdeal.Line.ops_arg1 _),
      (h.1 c Cert.ReferenceIdeal.main_arg2).trans (Cert.ReferenceIdeal.Line.ops_arg2 _),
      (h.1 c Cert.ReferenceIdeal.main_arg3).trans (Cert.ReferenceIdeal.Line.ops_arg3 _),
      (h.1 c Cert.ReferenceIdeal.main_arg4).trans (Cert.ReferenceIdeal.Line.ops_arg4 _)⟩, h.2⟩

/-- The kernel's result is the reference's. -/
theorem result_eq (m : (ℓ : Loc Cert.KernelIdeal.nD Cert.KernelIdeal.τ Cert.KernelIdeal.sig) → Buf (Elt Ideal) ℓ) (c : Dev Cert.KernelIdeal.nD) :
    Cert.KernelIdeal.Gen.V5 m (Cert.KernelIdeal.Val.outs m) c (Proc.devRef .tc Cert.KernelIdeal.main_v21)
      = Cert.ReferenceIdeal.Line.refOut (F := Ideal) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext (i : Cert.KernelIdeal.S100x128x128x16.Idx)
  have hi : i = ix4 (i 0) (i 1) (i 2) (i 3) := by
    funext a; match a with | ⟨0, _⟩ => rfl | ⟨1, _⟩ => rfl | ⟨2, _⟩ => rfl | ⟨3, _⟩ => rfl
  rw [hi]
  obtain ⟨k, hk, e⟩ := Cert.ReferenceIdeal.Val.refOut_apply (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (i 0) (i 1) (i 2) (i 3)
  refine (Cert.KernelIdeal.Val.result_apply m c (i 0) (i 1) (i 2) (i 3)).trans (Eq.trans ?_ e.symm)
  rw [(Cert.KernelIdeal.Val.best_spec m c (i 0)).unique hk]

/-- Everything claimed. -/
theorem claim : Cert.Claim := by
  refine ⟨Cert.KernelIdeal.Gen.facts, Cert.ReferenceIdeal.Gen.facts, fun m g _ => ?_, fun m g _ => ?_, fun m g m' g' _ h => ?_⟩
  · exact θ_run_mono (kernel_run m g) fun _ h => ⟨fun c => (h.1 c).2, h.2⟩
  · exact θ_run_mono (reference_run m g) fun _ h => ⟨fun c => (h.1 c).2, h.2⟩
  · refine ⟨fun c => Cert.KernelIdeal.Gen.V5 m (Cert.KernelIdeal.Val.outs m) c (Proc.devRef .tc Cert.KernelIdeal.main_v21), θ_run_mono (kernel_run m g) fun _ k => k.1,
      θ_run_mono (reference_run m' g') fun r k c => ⟨(k.1 c).1.trans ?_, (k.1 c).2⟩⟩
    rw [(h c).2.2.1, (h c).2.2.2.1, (h c).2.2.2.2]
    exact (result_eq m c).symm

end Cert.Proof

end
